-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S4x8192x768 : Shape := ⟨3, ![4, 8192, 768]⟩
abbrev S64x768 : Shape := ⟨2, ![64, 768]⟩
abbrev S4x8192x64 : Shape := ⟨3, ![4, 8192, 64]⟩
abbrev S_ : Shape := ⟨0, ![]⟩
abbrev S4x8192 : Shape := ⟨2, ![4, 8192]⟩
abbrev S4x8192x1 : Shape := ⟨3, ![4, 8192, 1]⟩

class Facts : Prop where
  reducesTo_S4x8192x64_S4x8192_d2 : S4x8192x64.ReducesTo [2] S4x8192
  h_S_ : 0 < S_.numel
  bcast_S4x8192_S4x8192x1_0_1 : S4x8192.BroadcastsInDim S4x8192x1 (![0, 1] : Fin 2 → Fin S4x8192x1.rank)
  bcast_S4x8192x1_S4x8192x64_0_1_2 : S4x8192x1.BroadcastsInDim S4x8192x64 (![0, 1, 2] : Fin 3 → Fin S4x8192x64.rank)
  bcast_S_S4x8192x64 : S_.BroadcastsInDim S4x8192x64 (![] : Fin 0 → Fin S4x8192x64.rank)
  natLt_1_32 : 1 < 32
  bcast_S_S4x8192x1 : S_.BroadcastsInDim S4x8192x1 (![] : Fin 0 → Fin S4x8192x1.rank)
  dot_S4x8192x768_S64x768_S4x8192x64_2_1_01_0_n_n_wf : DotDims.WF S4x8192x768 S64x768 S4x8192x64 [2] [1] [0, 1] [0] [] []

variable [Facts]

def dot_S4x8192x768_S64x768_S4x8192x64_2_1_01_0_n_n : DotDims S4x8192x768 S64x768 S4x8192x64 where
  lhsContracting := [2]
  rhsContracting := [1]
  lhsNonContracting := [0, 1]
  rhsNonContracting := [0]
  lhsBatch := []
  rhsBatch := []
  wf := dot_S4x8192x768_S64x768_S4x8192x64_2_1_01_0_n_n_wf
def fn_where {F : FTy → Type} [FloatOps F] (arg0 : IVec S4x8192x64 1) (arg1 : FVec F S_ .f32) (arg2 : FVec F S4x8192x64 .f32) : FVec F S4x8192x64 .f32 :=
  let v0 : FVec F S_ .f32 := id arg1
  let v1 : FVec F S4x8192x64 .f32 := broadcastInDim S4x8192x64 ![] bcast_S_S4x8192x64 v0
  let v2 : FVec F S4x8192x64 .f32 := select arg0 v1 arg2
  v2

def fn_part1 {F : FTy → Type} [FloatOps F] (main_v2 : FVec F S4x8192x1 .f32) (main_v14 : IVec S4x8192x1 1) (main_v17 : IVec S4x8192x64 32) (main_c_3 : IVec S_ 32) : IVec S4x8192x1 1 :=
  let main_v18 : IVec S4x8192 32 := (fun x v => Host.reduce IntOp.addi x v reducesTo_S4x8192x64_S4x8192_d2 h_S_) main_v17 main_c_3
  let main_v19 : IVec S4x8192x1 32 := broadcastInDim S4x8192x1 ![0, 1] bcast_S4x8192_S4x8192x1_0_1 main_v18
  let main_c_4 : IVec S_ 32 := constantI S_ 32 1#32
  let main_v20 : IVec S4x8192x1 32 := broadcastInDim S4x8192x1 ![] bcast_S_S4x8192x1 main_c_4
  let main_v21 : IVec S4x8192x1 1 := cmpi .eq main_v19 main_v20
  let main_v22 : IVec S4x8192x1 1 := andi main_v14 main_v21
  let main_cst_5 : FVec F S_ .f32 := constant S_ .f32 0x7F800000#32
  let main_v23 : FVec F S4x8192x1 .f32 := broadcastInDim S4x8192x1 ![] bcast_S_S4x8192x1 main_cst_5
  let main_v24 : IVec S4x8192x1 1 := cmpf .olt main_v2 main_v23
  let main_v25 : IVec S4x8192x1 1 := andi main_v22 main_v24
  main_v25

def fn {F : FTy → Type} [FloatOps F] (main_arg0 : FVec F S4x8192x768 .f32) (main_arg1 : FVec F S64x768 .f32) : IVec S4x8192x1 1 :=
  let main_v0 : FVec F S4x8192x64 .f32 := (fun l r => Host.dotGeneral dot_S4x8192x768_S64x768_S4x8192x64_2_1_01_0_n_n none l r) main_arg0 main_arg1
  let main_cst : FVec F S_ .f32 := constant S_ .f32 0xFF800000#32
  let main_v1 : FVec F S4x8192 .f32 := (fun x v => Host.reduce FloatOps.maximumf x v reducesTo_S4x8192x64_S4x8192_d2 h_S_) main_v0 main_cst
  let main_v2 : FVec F S4x8192x1 .f32 := broadcastInDim S4x8192x1 ![0, 1] bcast_S4x8192_S4x8192x1_0_1 main_v1
  let main_v3 : FVec F S4x8192x64 .f32 := broadcastInDim S4x8192x64 ![0, 1, 2] bcast_S4x8192x1_S4x8192x64_0_1_2 main_v2
  let main_v4 : IVec S4x8192x64 1 := cmpf .oeq main_v0 main_v3
  let main_cst_0 : FVec F S_ .f32 := constant S_ .f32 0xFF800000#32
  let main_v5 : FVec F S4x8192x64 .f32 := fn_where (F := F) main_v4 main_cst_0 main_v0
  let main_cst_1 : FVec F S_ .f32 := constant S_ .f32 0xFF800000#32
  let main_v6 : FVec F S4x8192 .f32 := (fun x v => Host.reduce FloatOps.maximumf x v reducesTo_S4x8192x64_S4x8192_d2 h_S_) main_v5 main_cst_1
  let main_v7 : FVec F S4x8192x1 .f32 := broadcastInDim S4x8192x1 ![0, 1] bcast_S4x8192_S4x8192x1_0_1 main_v6
  let main_v8 : FVec F S4x8192x64 .f32 := broadcastInDim S4x8192x64 ![0, 1, 2] bcast_S4x8192x1_S4x8192x64_0_1_2 main_v2
  let main_v9 : IVec S4x8192x64 1 := cmpf .oeq main_v0 main_v8
  let main_v10 : IVec S4x8192x64 32 := (extui 32 · natLt_1_32) main_v9
  let main_c : IVec S_ 32 := constantI S_ 32 0#32
  let main_v11 : IVec S4x8192 32 := (fun x v => Host.reduce IntOp.addi x v reducesTo_S4x8192x64_S4x8192_d2 h_S_) main_v10 main_c
  let main_v12 : IVec S4x8192x1 32 := broadcastInDim S4x8192x1 ![0, 1] bcast_S4x8192_S4x8192x1_0_1 main_v11
  let main_c_2 : IVec S_ 32 := constantI S_ 32 1#32
  let main_v13 : IVec S4x8192x1 32 := broadcastInDim S4x8192x1 ![] bcast_S_S4x8192x1 main_c_2
  let main_v14 : IVec S4x8192x1 1 := cmpi .eq main_v12 main_v13
  let main_v15 : FVec F S4x8192x64 .f32 := broadcastInDim S4x8192x64 ![0, 1, 2] bcast_S4x8192x1_S4x8192x64_0_1_2 main_v7
  let main_v16 : IVec S4x8192x64 1 := cmpf .oeq main_v5 main_v15
  let main_v17 : IVec S4x8192x64 32 := (extui 32 · natLt_1_32) main_v16
  let main_c_3 : IVec S_ 32 := constantI S_ 32 0#32
  fn_part1 (F := F) main_v2 main_v14 main_v17 main_c_3
-- ==== Kernel.lean ====
abbrev S4x8192x768 : Shape := ⟨3, ![4, 8192, 768]⟩
abbrev S64x768 : Shape := ⟨2, ![64, 768]⟩
abbrev S32768x768 : Shape := ⟨2, ![32768, 768]⟩
abbrev S768x64 : Shape := ⟨2, ![768, 64]⟩
abbrev S32768x2 : Shape := ⟨2, ![32768, 2]⟩
abbrev S4096x2 : Shape := ⟨2, ![4096, 2]⟩
abbrev S16x512x768 : Shape := ⟨3, ![16, 512, 768]⟩
abbrev S16 : Shape := ⟨1, ![16]⟩
abbrev S1 : Shape := ⟨1, ![1]⟩
abbrev S_ : Shape := ⟨0, ![]⟩
abbrev S1x512x768 : Shape := ⟨3, ![1, 512, 768]⟩
abbrev S512x768 : Shape := ⟨2, ![512, 768]⟩
abbrev S512x64 : Shape := ⟨2, ![512, 64]⟩
abbrev S512 : Shape := ⟨1, ![512]⟩
abbrev S512x1 : Shape := ⟨2, ![512, 1]⟩
abbrev S4x8192x2 : Shape := ⟨3, ![4, 8192, 2]⟩

abbrev nBuf : Space → Nat
  | .hbm => 8
  | .vmem => 6
  | .smem => 0
  | _ => 0

abbrev bufTy : (tb : Table) → Fin (tcTables nBuf tb) → BufTy
  | .hbm, ⟨0, _⟩ => ⟨S4x8192x768, .f32⟩
  | .hbm, ⟨1, _⟩ => ⟨S64x768, .f32⟩
  | .hbm, ⟨2, _⟩ => ⟨S32768x768, .f32⟩
  | .hbm, ⟨3, _⟩ => ⟨S768x64, .f32⟩
  | .hbm, ⟨4, _⟩ => ⟨S32768x2, .f32⟩
  | .hbm, ⟨5, _⟩ => ⟨S32768x2, .i32⟩
  | .hbm, ⟨6, _⟩ => ⟨S4x8192x2, .f32⟩
  | .hbm, ⟨7, _⟩ => ⟨S4x8192x2, .i32⟩
  | .local _ .vmem, ⟨0, _⟩ => ⟨S768x64, .f32⟩
  | .local _ .vmem, ⟨1, _⟩ => ⟨S4096x2, .f32⟩
  | .local _ .vmem, ⟨2, _⟩ => ⟨S4096x2, .f32⟩
  | .local _ .vmem, ⟨3, _⟩ => ⟨S4096x2, .i32⟩
  | .local _ .vmem, ⟨4, _⟩ => ⟨S4096x2, .i32⟩
  | .local _ .vmem, ⟨5, _⟩ => ⟨S16x512x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) (c0_i32_179 : BitVec 32) : Fin 2 → Nat :=
  let arg0 : BitVec 32 := BitVec.ofNat 32 (i 0).val
  let c4096_i32_178 : BitVec 32 := 4096#32
  let v324 : BitVec 32 := Scalar.muli arg0 c4096_i32_178
  let v325 : BitVec 32 := Scalar.addi v324 c0_i32_179
  let c0_i32_184 : BitVec 32 := 0#32
  ![v325.toNat, 0]
def k0_cond2 (i : grid0.Coords) : BitVec 1 :=
  let arg0 : BitVec 32 := BitVec.ofNat 32 (i 0).val
  let c7_i32 : BitVec 32 := 7#32
  let v3 : BitVec 1 := Scalar.cmpi .slt arg0 c7_i32
  let v4 : BitVec 32 := Scalar.extui v3
  let c0_i32_1 : BitVec 32 := 0#32
  let v5 : BitVec 1 := Scalar.cmpi .ne v4 c0_i32_1
  v5

def k0_off2 (i : grid0.Coords) (c0_i32_190 : BitVec 32) : Fin 1 → Nat :=
  let arg0 : BitVec 32 := BitVec.ofNat 32 (i 0).val
  let c1_i32_178 : BitVec 32 := 1#32
  let v324 : BitVec 32 := Scalar.addi arg0 c1_i32_178
  let c2_i32_179 : BitVec 32 := 2#32
  let c0_i32_180 : BitVec 32 := 0#32
  let v325 : BitVec 1 := Scalar.cmpi .eq c2_i32_179 c0_i32_180
  let c1_i32_181 : BitVec 32 := 1#32
  let v326 : BitVec 32 := Scalar.select v325 c1_i32_181 c2_i32_179
  let v327 : BitVec 32 := Scalar.remsi v324 v326
  let c0_i32_183 : BitVec 32 := 0#32
  let v329 : BitVec 1 := Scalar.cmpi .slt v327 c0_i32_183
  let c0_i32_184 : BitVec 32 := 0#32
  let v330 : BitVec 1 := Scalar.cmpi .slt v326 c0_i32_184
  let v331 : BitVec 1 := Scalar.xori v329 v330
  let c0_i32_182 : BitVec 32 := 0#32
  let v328 : BitVec 1 := Scalar.cmpi .ne v327 c0_i32_182
  let v332 : BitVec 1 := Scalar.andi v331 v328
  let v333 : BitVec 32 := Scalar.addi v327 v326
  let v334 : BitVec 32 := Scalar.select v332 v333 v327
  let c8_i32_185 : BitVec 32 := 8#32
  let v335 : BitVec 32 := Scalar.muli v334 c8_i32_185
  let v340 : BitVec 32 := Scalar.addi v335 c0_i32_190
  ![v340.toNat]
def k0_off3 (i : grid0.Coords) (c0_i32_189 : BitVec 32) : Fin 3 → Nat :=
  let arg0 : BitVec 32 := BitVec.ofNat 32 (i 0).val
  let c1_i32_178 : BitVec 32 := 1#32
  let v324 : BitVec 32 := Scalar.addi arg0 c1_i32_178
  let c2_i32_179 : BitVec 32 := 2#32
  let c0_i32_180 : BitVec 32 := 0#32
  let v325 : BitVec 1 := Scalar.cmpi .eq c2_i32_179 c0_i32_180
  let c1_i32_181 : BitVec 32 := 1#32
  let v326 : BitVec 32 := Scalar.select v325 c1_i32_181 c2_i32_179
  let v327 : BitVec 32 := Scalar.remsi v324 v326
  let c0_i32_183 : BitVec 32 := 0#32
  let v329 : BitVec 1 := Scalar.cmpi .slt v327 c0_i32_183
  let c0_i32_184 : BitVec 32 := 0#32
  let v330 : BitVec 1 := Scalar.cmpi .slt v326 c0_i32_184
  let v331 : BitVec 1 := Scalar.xori v329 v330
  let c0_i32_182 : BitVec 32 := 0#32
  let v328 : BitVec 1 := Scalar.cmpi .ne v327 c0_i32_182
  let v332 : BitVec 1 := Scalar.andi v331 v328
  let v333 : BitVec 32 := Scalar.addi v327 v326
  let v334 : BitVec 32 := Scalar.select v332 v333 v327
  let c8_i32_185 : BitVec 32 := 8#32
  let v335 : BitVec 32 := Scalar.muli v334 c8_i32_185
  let v339 : BitVec 32 := Scalar.addi v335 c0_i32_189
  let c0_i32_191 : BitVec 32 := 0#32
  let c0_i32_192 : BitVec 32 := 0#32
  ![v339.toNat, 0, 0]
def k0_off4 (i : grid0.Coords) (c0_i32_188 : BitVec 32) : Fin 2 → Nat :=
  let arg0 : BitVec 32 := BitVec.ofNat 32 (i 0).val
  let c1_i32_186 : BitVec 32 := 1#32
  let v336 : BitVec 32 := Scalar.addi arg0 c1_i32_186
  let c4096_i32_187 : BitVec 32 := 4096#32
  let v337 : BitVec 32 := Scalar.muli v336 c4096_i32_187
  let v338 : BitVec 32 := Scalar.addi v337 c0_i32_188
  let c0_i32_193 : BitVec 32 := 0#32
  ![v338.toNat, 0]
def k0_off5 (i : grid0.Coords) (c0_i32_9 : BitVec 32) : Fin 1 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c8_i32 : BitVec 32 := 8#32
  let v16 : BitVec 32 := Scalar.muli v15 c8_i32
  let v23 : BitVec 32 := Scalar.addi v16 c0_i32_9
  ![v23.toNat]
def k0_off6 (i : grid0.Coords) (c0_i32_8 : BitVec 32) : Fin 3 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c8_i32 : BitVec 32 := 8#32
  let v16 : BitVec 32 := Scalar.muli v15 c8_i32
  let v22 : BitVec 32 := Scalar.addi v16 c0_i32_8
  let c0_i32_10 : BitVec 32 := 0#32
  let c0_i32_11 : BitVec 32 := 0#32
  ![v22.toNat, 0, 0]
def k0_off7 (i : grid0.Coords) (c0_i32_7 : BitVec 32) : Fin 2 → Nat :=
  let arg0 : BitVec 32 := BitVec.ofNat 32 (i 0).val
  let c4096_i32 : BitVec 32 := 4096#32
  let v20 : BitVec 32 := Scalar.muli arg0 c4096_i32
  let v21 : BitVec 32 := Scalar.addi v20 c0_i32_7
  let c0_i32_12 : BitVec 32 := 0#32
  ![v21.toNat, 0]
def k0_off8 (i : grid0.Coords) (c0_i32_13 : BitVec 32) : Fin 3 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c8_i32 : BitVec 32 := 8#32
  let v16 : BitVec 32 := Scalar.muli v15 c8_i32
  let v29 : BitVec 32 := Scalar.addi v16 c0_i32_13
  let v30 : Index := Scalar.indexCast v29
  let c0_14 : Index := 0#32
  let c0_15 : Index := 0#32
  ![v30.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S768x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x8192x768 : Shape := ⟨3, ![4, 8192, 768]⟩
abbrev S64x768 : Shape := ⟨2, ![64, 768]⟩
abbrev S4x8192x64 : Shape := ⟨3, ![4, 8192, 64]⟩
abbrev S_ : Shape := ⟨0, ![]⟩
abbrev S4x8192 : Shape := ⟨2, ![4, 8192]⟩
abbrev S4x8192x1 : Shape := ⟨3, ![4, 8192, 1]⟩
abbrev S4x8192x2 : Shape := ⟨3, ![4, 8192, 2]⟩

abbrev nBuf : Space → Nat
  | .hbm => 24
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S64x768, .f32⟩
  | .hbm, ⟨2, _⟩ => ⟨S4x8192x64, .f32⟩
  | .hbm, ⟨3, _⟩ => ⟨S_, .f32⟩
  | .hbm, ⟨4, _⟩ => ⟨S4x8192, .f32⟩
  | .hbm, ⟨5, _⟩ => ⟨S_, .f32⟩
  | .hbm, ⟨6, _⟩ => ⟨S4x8192, .f32⟩
  | .hbm, ⟨7, _⟩ => ⟨S4x8192, .f32⟩
  | .hbm, ⟨8, _⟩ => ⟨S4x8192x1, .f32⟩
  | .hbm, ⟨9, _⟩ => ⟨S4x8192x64, .f32⟩
  | .hbm, ⟨10, _⟩ => ⟨S4x8192x64, .f32⟩
  | .hbm, ⟨11, _⟩ => ⟨S4x8192x64, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S4x8192x64, .f32⟩
  | .hbm, ⟨16, _⟩ => ⟨S4x8192x64, .f32⟩
  | .hbm, ⟨17, _⟩ => ⟨S4x8192x2, .f32⟩
  | .hbm, ⟨18, _⟩ => ⟨S4x8192x2, .i32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S4x8192x2, .f32⟩
  | .hbm, ⟨23, _⟩ => ⟨S4x8192x2, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_values : Ref sig .tc := ⟨.hbm, 17, rfl⟩
abbrev main_indices : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Proof.KernelIdeal.Body.lean ====
/- The body of the router kernel as a list of steps: copies started, then eight chunks, each waited for,
   loaded and turned into two columns of weights and two columns of expert numbers. -/
module

public import proofs.«01_k».proof.Proof.Gen.KernelIdeal.Frame
public import proofs.«01_k».proof.Proof.Gen.KernelIdeal.Skeleton

@[expose] public section

set_option maxRecDepth 16384

noncomputable section

namespace Cert.KernelIdeal.Router

open Idealize.ShloMosaic Idealize.ShloMosaic.TcCoe Idealize.SL.Sem
open Cert.KernelIdeal.Gen

variable {F : FTy → Type} [FloatOps F]

/-- The tokens in HBM, whole. -/
abbrev srcM : Memref sig .tc .hbm S32768x768 .f32 := Memref.whole main_v0
/-- The sixteen slots in VMEM, whole. -/
abbrev slotsM : Memref sig .tc .vmem S16x512x768 .f32 := Memref.whole cc0_scratch0

/-- A slot lies inside the slots. -/
theorem inb_slot (s : Fin 16) : ∀ a, (![s.val, 0, 0] : Fin 3 → Nat) a + S1x512x768.size a ≤ S16x512x768.size a := by
  have := s.isLt; intro a; fin_cases a <;> simp <;> omega
/-- A block of 512 rows lies inside the tokens. -/
theorem inb_blk (b : Fin 64) : ∀ a, (![512 * b.val, 0] : Fin 2 → Nat) a + S512x768.size a ≤ S32768x768.size a := by
  have := b.isLt; intro a; fin_cases a <;> simp <;> omega
/-- A semaphore lies inside the semaphores. -/
theorem inb_cell (s : Fin 16) : ∀ a, (![s.val] : Fin 1 → Nat) a + S1.size a ≤ S16.size a := by
  have := s.isLt; intro a; fin_cases a <;> simp <;> omega
/-- A chunk's column lies inside a block of results. -/
theorem inb_col (r : Fin 8) (k : Fin 2) : ∀ a, (![512 * r.val, k.val] : Fin 2 → Nat) a + S512x1.size a ≤ S4096x2.size a := by
  have := r.isLt; have := k.isLt; intro a; fin_cases a <;> simp <;> omega

/-- The slot at an offset of the scratch, as a copy's destination. -/
abbrev slotAt (o : Fin 3 → Nat) (h : ∀ a, o a + S1x512x768.size a ≤ S16x512x768.size a) : Memref sig .tc .vmem S512x768 .f32 :=
  (slotsM.slice (Rect.unit (s := S16x512x768) o S1x512x768.size h) (fun _ => rfl)).squeeze S512x768 Facts₀.squeezes_S1x512x768_S512x768
/-- The rows at an offset of the tokens, as a copy's source. -/
abbrev blkAt (o : Fin 2 → Nat) (h : ∀ a, o a + S512x768.size a ≤ S32768x768.size a) : Memref sig .tc .hbm S512x768 .f32 :=
  srcM.slice (Rect.unit (s := S32768x768) o S512x768.size h) (fun _ => rfl)
/-- The semaphore at an offset of the semaphores. -/
abbrev cellAt (o : Fin 1 → Nat) (h : ∀ a, o a + S1.size a ≤ S16.size a) : DmaSems sig S_ :=
  (cc0_scratch1.slice (Rect.unit (s := S16) o S1.size h)).squeeze S_ Facts₀.squeezes_S1_S_

/-- Slot `s`, block `b` of 512 tokens, semaphore `s`. -/
def slotM (s : Fin 16) : Memref sig .tc .vmem S512x768 .f32 := slotAt ![s.val, 0, 0] (inb_slot s)
/-- Block `b` of the tokens. -/
def blkM (b : Fin 64) : Memref sig .tc .hbm S512x768 .f32 := blkAt ![512 * b.val, 0] (inb_blk b)
/-- Semaphore `s`. -/
def cellM (s : Fin 16) : DmaSems sig S_ := cellAt ![s.val] (inb_cell s)

/-- Starting a copy. -/
def start (x : Memref sig .tc .hbm S512x768 .f32) (y : Memref sig .tc .vmem S512x768 .f32) (z : DmaSems sig S_) :
    Prog (TpuEff nD τ sig (Elt F) Λ₀ .tc) PUnit :=
  Prog.lift (.enqueueDma x (.here y) (.dma z.sem) (View.wordExact_bits rfl) (View.wordExact_bits rfl) ⟨Or.inl rfl, trivial⟩)

/-- Waiting for a copy, loading its slot, and storing what is computed from it in the two columns of each result. -/
def chunkAt (x : Memref sig .tc .hbm S512x768 .f32) (y : Memref sig .tc .vmem S512x768 .f32) (z : DmaSems sig S_)
    (o : Fin 3 → Nat) (h : ∀ a, o a + S1x512x768.size a ≤ S16x512x768.size a)
    (w : Memref sig .tc .vmem S4096x2 .f32) (n : Memref sig .tc .vmem S4096x2 .i32) (u : FVec F S768x64 .bf16) (r : Fin 8) :
    Prog (TpuEff nD τ sig (Elt F) Λ₀ .tc) PUnit := do
  Prog.lift (.waitDma2 z.sem x y (View.wordExact_bits rfl) (View.wordExact_bits rfl))
  let v : Vec F S1x512x768 .f32 ← Prog.lift (.load slotsM (Rect.unit (s := S16x512x768) o S1x512x768.size h).toLoadRect (View.loadsAt_vmem Facts₀.h_S1x512x768))
  let _ : Vec F S512x1 .f32 ← Prog.lift (.load w (Rect.unit (s := S4096x2) ![512 * r.val, 0] S512x1.size (inb_col r 0)).toLoadRect (View.loadsAt_vmem h_S512x1))
  Prog.lift (.store w (Rect.unit (s := S4096x2) ![512 * r.val, 0] S512x1.size (inb_col r 0)) (k0_pay30 u v) Finset.univ (View.stores_vmem_bits_univ h_S512x1 rfl) (.inl rfl))
  let _ : Vec F S512x1 .f32 ← Prog.lift (.load w (Rect.unit (s := S4096x2) ![512 * r.val, 1] S512x1.size (inb_col r 1)).toLoadRect (View.loadsAt_vmem h_S512x1))
  Prog.lift (.store w (Rect.unit (s := S4096x2) ![512 * r.val, 1] S512x1.size (inb_col r 1)) (k0_pay31 u v) Finset.univ (View.stores_vmem_bits_univ h_S512x1 rfl) (.inl rfl))
  let _ : Vec F S512x1 .i32 ← Prog.lift (.load n (Rect.unit (s := S4096x2) ![512 * r.val, 0] S512x1.size (inb_col r 0)).toLoadRect (View.loadsAt_vmem h_S512x1))
  Prog.lift (.store n (Rect.unit (s := S4096x2) ![512 * r.val, 0] S512x1.size (inb_col r 0)) (k0_pay26 u v) Finset.univ (View.stores_vmem_bits_univ h_S512x1 rfl) (.inl rfl))
  let _ : Vec F S512x1 .i32 ← Prog.lift (.load n (Rect.unit (s := S4096x2) ![512 * r.val, 1] S512x1.size (inb_col r 1)).toLoadRect (View.loadsAt_vmem h_S512x1))
  Prog.lift (.store n (Rect.unit (s := S4096x2) ![512 * r.val, 1] S512x1.size (inb_col r 1)) (k0_pay28 u v) Finset.univ (View.stores_vmem_bits_univ h_S512x1 rfl) (.inl rfl))
  pure ⟨⟩

/-- A step for each number of a list, in order. -/
def each (f : Fin 8 → Prog (TpuEff nD τ sig (Elt F) Λ₀ .tc) PUnit) : List (Fin 8) → Prog (TpuEff nD τ sig (Elt F) Λ₀ .tc) PUnit
  | [] => pure ⟨⟩
  | r :: rs => f r >>= fun _ => each f rs

/-- The eight numbers in order. -/
abbrev eight : List (Fin 8) := [0, 1, 2, 3, 4, 5, 6, 7]

/-- The copy `r` of the first point's own tokens. -/
def startOwn (i : grid0.Coords) (h : k0_cond1 i = 1#1) (r : Fin 8) : Prog (TpuEff nD τ sig (Elt F) Λ₀ .tc) PUnit :=
  start (blkAt (k0_off1 i (BitVec.ofNat 32 (512 * r.val))) (Facts₀.k0_off1_inb i h r)) (slotAt ![r.val, 0, 0] (inb_slot ⟨r.val, by omega⟩))
    (cellAt ![r.val] (inb_cell ⟨r.val, by omega⟩))

/-- The copy `r` of the next point's tokens. -/
def startNext (i : grid0.Coords) (h : k0_cond2 i = 1#1) (r : Fin 8) : Prog (TpuEff nD τ sig (Elt F) Λ₀ .tc) PUnit :=
  start (blkAt (k0_off4 i (BitVec.ofNat 32 (512 * r.val))) (Facts₀.k0_off4_inb i h r))
    (slotAt (k0_off3 i (BitVec.ofNat 32 r.val)) (Facts₀.k0_off3_inb i h r)) (cellAt (k0_off2 i (BitVec.ofNat 32 r.val)) (Facts₀.k0_off2_inb i h r))

/-- The chunk `r` of the point. -/
def chunk (i : grid0.Coords) (w : Memref sig .tc .vmem S4096x2 .f32) (n : Memref sig .tc .vmem S4096x2 .i32) (u : FVec F S768x64 .bf16) (r : Fin 8) :
    Prog (TpuEff nD τ sig (Elt F) Λ₀ .tc) PUnit :=
  chunkAt (blkAt (k0_off7 i (BitVec.ofNat 32 (512 * r.val))) (Facts₀.k0_off7_inb i r))
    (slotAt (k0_off6 i (BitVec.ofNat 32 r.val)) (Facts₀.k0_off6_inb i r)) (cellAt (k0_off5 i (BitVec.ofNat 32 r.val)) (Facts₀.k0_off5_inb i r))
    (k0_off8 i (BitVec.ofNat 32 r.val)) (Facts₀.k0_off8_inb i r) w n u r

/-- The copies of the first point's own tokens, at the first point. -/
def startsOwn (i : grid0.Coords) : Prog (TpuEff nD τ sig (Elt F) Λ₀ .tc) PUnit :=
  if h : k0_cond1 i = 1#1 then each (startOwn i h) eight else pure ⟨⟩
/-- The copies of the next point's tokens, at every point but the last. -/
def startsNext (i : grid0.Coords) : Prog (TpuEff nD τ sig (Elt F) Λ₀ .tc) PUnit :=
  if h : k0_cond2 i = 1#1 then each (startNext i h) eight else pure ⟨⟩

/-- The body: the point's own copies if it is the first, the next point's if there is one, the weights loaded, the eight chunks. -/
def routerBody (i : grid0.Coords) (e : Memref sig .tc .vmem S768x64 .f32) (w : Memref sig .tc .vmem S4096x2 .f32) (n : Memref sig .tc .vmem S4096x2 .i32) :
    Prog (TpuEff nD τ sig (Elt F) Λ₀ .tc) PUnit := do
  startsOwn i
  startsNext i
  let v ← Prog.lift (.load e (Rect.unit (s := S768x64) ![0, 0] S768x64.size Facts₀.inb_S768x64_S768x64_0_0).toLoadRect (View.loadsAt_vmem h_S768x64))
  each (chunk i w n (k0_pay6 v)) eight

set_option maxRecDepth 65536 in
set_option maxHeartbeats 4000000 in
/-- The printed body is those steps. -/
theorem body_eq (i : grid0.Coords) (e : Memref sig .tc .vmem S768x64 .f32) (he : e.IsWhole) (w : Memref sig .tc .vmem S4096x2 .f32) (hw : w.IsWhole)
    (n : Memref sig .tc .vmem S4096x2 .i32) (hn : n.IsWhole) :
    cc0__router_body (F := F) i srcM (Memref.isWhole_whole _) e he w hw n hn slotsM (Memref.isWhole_whole _) cc0_scratch1 = routerBody i e w n := by
  rw [cc0__router_body_eq_skeleton]
  unfold cc0__router_body_skel routerBody startsOwn startsNext
  rw [k0_part5_eq_skeleton]
  unfold k0_part5_skel
  by_cases h1 : k0_cond1 i = 1#1 <;> by_cases h2 : k0_cond2 i = 1#1 <;> simp only [h1, h2, ↓reduceDIte] <;> rfl

end Cert.KernelIdeal.Router

end
-- ==== Proof.KernelIdeal.Ring.lean ====
/- The sixteen slots as a ring of states: a slot is free, or a copy of some block of 512 tokens into it is on its way. -/
module

public import proofs.«01_k».proof.Proof.KernelIdeal.Body
public import Idealize.ShloMosaic.Lib.ShareLeaves

@[expose] public section

set_option maxRecDepth 16384

noncomputable section

namespace Cert.KernelIdeal.Router

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (Pipeline.UD sig nD τ) ℕ

/-! ## Which slot and which block -/

/-- The slot of chunk `r` of the points of `k`'s parity. -/
def slotOf (k : ℕ) (r : Fin 8) : Fin 16 := ⟨8 * (k % 2) + r.val, by omega⟩
/-- The block of chunk `r` of point `k`. -/
def blkOf (k : ℕ) (r : Fin 8) : Fin 64 := Fin.ofNat 64 (8 * k + r.val)

/-- The first branch is the first point's. -/
theorem cond1_iff : ∀ t : Fin grid0.N, k0_cond1 (grid0.coords t) = 1#1 ↔ t.val = 0 := by decide +kernel
/-- The second branch is every point's but the last. -/
theorem cond2_iff : ∀ t : Fin grid0.N, k0_cond2 (grid0.coords t) = 1#1 ↔ t.val < 7 := by decide +kernel

/-- The rows that a first point's start copies. -/
theorem off1_eq : ∀ (t : Fin grid0.N) (r : Fin 8), k0_off1 (grid0.coords t) (BitVec.ofNat 32 (512 * r.val)) = ![512 * (blkOf t.val r).val, 0] := by decide +kernel
/-- The rows that a wait names. -/
theorem off7_eq : ∀ (t : Fin grid0.N) (r : Fin 8), k0_off7 (grid0.coords t) (BitVec.ofNat 32 (512 * r.val)) = ![512 * (blkOf t.val r).val, 0] := by decide +kernel
/-- The rows that a start for the next point copies. -/
theorem off4_eq : ∀ (t : Fin grid0.N), t.val < 7 → ∀ (r : Fin 8), k0_off4 (grid0.coords t) (BitVec.ofNat 32 (512 * r.val)) = ![512 * (blkOf (t.val + 1) r).val, 0] := by decide +kernel
/-- The slot that such a start fills. -/
theorem off3_eq : ∀ (t : Fin grid0.N) (r : Fin 8), k0_off3 (grid0.coords t) (BitVec.ofNat 32 r.val) = ![(slotOf (t.val + 1) r).val, 0, 0] := by decide +kernel
/-- The slot that a wait names. -/
theorem off6_eq : ∀ (t : Fin grid0.N) (r : Fin 8), k0_off6 (grid0.coords t) (BitVec.ofNat 32 r.val) = ![(slotOf t.val r).val, 0, 0] := by decide +kernel
/-- The slot that a chunk is read from. -/
theorem off8_eq : ∀ (t : Fin grid0.N) (r : Fin 8), k0_off8 (grid0.coords t) (BitVec.ofNat 32 r.val) = ![(slotOf t.val r).val, 0, 0] := by decide +kernel
/-- The semaphore of a start for the next point. -/
theorem off2_eq : ∀ (t : Fin grid0.N) (r : Fin 8), k0_off2 (grid0.coords t) (BitVec.ofNat 32 r.val) = ![(slotOf (t.val + 1) r).val] := by decide +kernel
/-- The semaphore of a wait. -/
theorem off5_eq : ∀ (t : Fin grid0.N) (r : Fin 8), k0_off5 (grid0.coords t) (BitVec.ofNat 32 r.val) = ![(slotOf t.val r).val] := by decide +kernel

/-- A slot at a known offset. -/
theorem slotAt_eq {o : Fin 3 → Nat} (s : Fin 16) (e : o = ![s.val, 0, 0]) (h) : slotAt o h = slotM s := by subst e; rfl
/-- A block at a known offset. -/
theorem blkAt_eq {o : Fin 2 → Nat} (b : Fin 64) (e : o = ![512 * b.val, 0]) (h) : blkAt o h = blkM b := by subst e; rfl
/-- A semaphore at a known offset. -/
theorem cellAt_eq {o : Fin 1 → Nat} (s : Fin 16) (e : o = ![s.val]) (h) : cellAt o h = cellM s := by subst e; rfl

/-- Copying block `b` into slot `s`. -/
def issue (s : Fin 16) (b : Fin 64) : Prog (TpuEff nD τ sig (Elt F) Λ₀ .tc) PUnit := start (blkM b) (slotM s) (cellM s)
/-- Chunk `r`, its tokens block `b` awaited in slot `s`. -/
def eat (s : Fin 16) (b : Fin 64) (w : Memref sig .tc .vmem S4096x2 .f32) (n : Memref sig .tc .vmem S4096x2 .i32) (u : FVec F S768x64 .bf16) (r : Fin 8) :
    Prog (TpuEff nD τ sig (Elt F) Λ₀ .tc) PUnit :=
  chunkAt (blkM b) (slotM s) (cellM s) ![s.val, 0, 0] (inb_slot s) w n u r

/-- A first point's start issues its own chunk's copy. -/
theorem startOwn_eq (t : Fin grid0.N) (h) (r : Fin 8) : startOwn (F := F) (grid0.coords t) h r = issue (slotOf t.val r) (blkOf t.val r) := by
  have ht : t.val = 0 := (cond1_iff t).mp h
  unfold startOwn issue
  rw [blkAt_eq _ (off1_eq t r), slotAt_eq (slotOf t.val r) (by simp [slotOf, ht]), cellAt_eq (slotOf t.val r) (by simp [slotOf, ht])]
/-- A start for the next point issues that point's copy. -/
theorem startNext_eq (t : Fin grid0.N) (h) (r : Fin 8) : startNext (F := F) (grid0.coords t) h r = issue (slotOf (t.val + 1) r) (blkOf (t.val + 1) r) := by
  unfold startNext issue
  rw [blkAt_eq _ (off4_eq t ((cond2_iff t).mp h) r), slotAt_eq _ (off3_eq t r), cellAt_eq _ (off2_eq t r)]
/-- A chunk of the body, its offsets known. -/
theorem chunk_eq (t : Fin grid0.N) (w : Memref sig .tc .vmem S4096x2 .f32) (n : Memref sig .tc .vmem S4096x2 .i32) (u : FVec F S768x64 .bf16) (r : Fin 8) :
    chunk (grid0.coords t) w n u r = eat (slotOf t.val r) (blkOf t.val r) w n u r := by
  unfold chunk eat
  rw [blkAt_eq _ (off7_eq t r), slotAt_eq _ (off6_eq t r), cellAt_eq _ (off5_eq t r)]
  have : ∀ (o : Fin 3 → Nat) (h) (o' : Fin 3 → Nat) (h'), o = o' → chunkAt (F := F) (blkM (blkOf t.val r)) (slotM (slotOf t.val r)) (cellM (slotOf t.val r)) o h w n u r
      = chunkAt (blkM (blkOf t.val r)) (slotM (slotOf t.val r)) (cellM (slotOf t.val r)) o' h' w n u r := fun o h o' h' e => by subst e; rfl
  exact this _ _ _ _ (off8_eq t r)

/-! ## What a slot holds -/

section Slots
variable (c : Dev nD) (X : Buf (Elt F) (srcM.view.loc (c : Thread nD τ)))

/-- The share of the tokens that slot `s` lends to its copies. -/
abbrev shareOf (s : Fin 16) : PosShare TreeShare := ShareLeaves.leaf 4 fullShare s
/-- Contents of a slot's buffer. -/
abbrev SlotBuf (s : Fin 16) : Type := Buf (Elt F) ((slotM s).view.loc (c : Thread nD τ))
/-- Owning slot `s`. -/
abbrev slotP (s : Fin 16) (f : SlotBuf (F := F) c s) : sProp 𝕄 := (slotM s).view.loc (c : Thread nD τ) ↦[(slotM s).view.set]{fullShare} f
/-- Semaphore `s` as a location. -/
abbrev cellR (s : Fin 16) : SemLoc sig := SemLoc.dma (cellM s).sem
/-- Owning semaphore `s` at zero. -/
abbrev cellP (s : Fin 16) : sProp 𝕄 := semVal ((c : Thread nD τ), cellR s) 0
/-- The share of block `b` that a copy into slot `s` takes. -/
abbrev lentP (s : Fin 16) (b : Fin 64) : sProp 𝕄 := (blkM b).view.loc (c : Thread nD τ) ↦[(blkM b).view.set]{shareOf s} X
/-- The rest of slot `s`'s share of the tokens. -/
def keptP (s : Fin 16) (b : Fin 64) : sProp 𝕄 := ((c : Thread nD τ).loc main_v0) ↦[Finset.univ \ (blkM b).view.set]{shareOf s} X
/-- Slot `s`'s share of the tokens. -/
abbrev wholeP (s : Fin 16) : sProp 𝕄 := ((c : Thread nD τ).loc main_v0) ↦[Finset.univ]{shareOf s} X
/-- A slot's contents once block `b` has landed over `f`. -/
abbrev landed (s : Fin 16) (b : Fin 64) (f : SlotBuf (F := F) c s) : SlotBuf (F := F) c s :=
  (slotM s).view.writes (Elt F) f [⟨Rect.whole S512x768, ReadAs.same.apply ((blkM b).view.read (Elt F) X)⟩]
/-- A copy of block `b` into slot `s` under way. -/
abbrev flightP (s : Fin 16) (b : Fin 64) (f : SlotBuf (F := F) c s) : sProp 𝕄 :=
  Transfers.Flight countersEmb (c : Thread nD τ) (cellR s) default ((slotM s).view.amount (cellR s))
    iprop(slotP c s (landed c X s b f) ∗ lentP c X s b)

/-- A free slot: its semaphore at zero, its elements at some contents, its share of the tokens. -/
def freeP (s : Fin 16) : sProp 𝕄 := iprop(cellP c s ∗ (∃ f, slotP c s f) ∗ wholeP c X s)
/-- A slot into which block `b` is on its way. -/
def awayP (s : Fin 16) (b : Fin 64) : sProp 𝕄 := iprop((∃ f, flightP c X s b f) ∗ keptP c X s b)
/-- A slot in its state. -/
def stateP (s : Fin 16) : Option (Fin 64) → sProp 𝕄
  | none => freeP c X s
  | some b => awayP c X s b
/-- The sixteen slots in their states. -/
def ringP (σ : Fin 16 → Option (Fin 64)) : sProp 𝕄 := Ring.AtW (stateP c X) σ

/-- A share of the tokens is a block's part and the rest. -/
theorem lend (s : Fin 16) (b : Fin 64) : wholeP (F := F) c X s ⊣⊢ iprop(lentP c X s b ∗ keptP c X s b) := by
  unfold keptP; exact pointsTo_split_subset (Finset.subset_univ _)

set_option maxHeartbeats 1000000 in
/-- A copy of block `b` started into a free slot leaves the slot with the block on its way. -/
theorem wp_issue (s : Fin 16) (b : Fin 64) (K : PUnit → sProp 𝕄) :
    iprop(freeP c X s ∗ (awayP c X s b -∗ K ⟨⟩)) ⊢ wp frame (wpE (defs₀ (F := F)) Variants.none c none) Set.univ (issue s b) K := by
  unfold freeP awayP issue start
  iintro ⟨⟨Hc, ⟨%f, Hs⟩, Hw⟩, Hk⟩
  ihave Hsp := (lend c X s b).1 $$ Hw
  icases Hsp with ⟨Hh, Hr⟩
  sl_exec
  sl_step
  iapply Hk
  isplitl [Hc]; · iexists _; iexact Hc
  iexact Hr

end Slots

end Cert.KernelIdeal.Router

end
-- ==== Proof.KernelIdeal.Eat.lean ====
/- One chunk: the wait for its tokens, the load and the four stores. -/
module

public import proofs.«01_k».proof.Proof.KernelIdeal.Ring
public import Idealize.ShloMosaic.Lib.WritesUnit
public import Idealize.ShloMosaic.Lib.Pipeline.Value
public import Idealize.ShloMosaic.Lib.Pointwise

@[expose] public section

set_option maxRecDepth 16384

noncomputable section

namespace Cert.KernelIdeal.Router

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (Pipeline.UD sig nD τ) ℕ

section
variable (c : Dev nD) (X : Buf (Elt F) (srcM.view.loc (c : Thread nD τ)))

/-- Block `b` of the tokens as a chunk's load reads it. -/
def tok (b : Fin 64) : Vec F S1x512x768 .f32 :=
  shapeCast S1x512x768 ((blkM b).view.read (Elt F) X) (Eq.symm Facts₀.shapeCasts_S1x512x768_S512x768)

/-- A slot in which block `b` has landed reads that block. -/
theorem readAt_landed (s : Fin 16) (b : Fin 64) (f : SlotBuf (F := F) c s) :
    slotsM.view.readAt (Elt F) (Rect.unit (s := S16x512x768) ![s.val, 0, 0] S1x512x768.size (inb_slot s)).toLoadRect (landed c X s b f) = tok c X b := by
  have h := Memref.read_squeeze_slice (Val := Elt F) slotsM (Rect.unit (s := S16x512x768) ![s.val, 0, 0] S1x512x768.size (inb_slot s)) (fun _ => rfl)
    Facts₀.squeezes_S1x512x768_S512x768 Facts₀.shapeCasts_S1x512x768_S512x768 (landed c X s b f)
  have e : (slotM s).view.read (Elt F) (landed c X s b f) = (blkM b).view.read (Elt F) X := View.read_writes_whole _ _ _
  unfold tok
  rw [← e]
  refine Eq.trans ?_ (congrArg (fun z => shapeCast S1x512x768 z (Eq.symm Facts₀.shapeCasts_S1x512x768_S512x768)) h.symm)
  exact ((shapeCast_comp _ _ _).trans (shapeCast_id _ _)).symm

/-- The two columns of a chunk over the rows of a block. -/
abbrev pieces {e : EltTy} (r : Fin 8) (a b : S512x1.Idx → Elt F e) : List (View.Piece (Elt F) S4096x2 e) :=
  [⟨Rect.unit (s := S4096x2) ![512 * r.val, 1] S512x1.size (inb_col r 1), b⟩, ⟨Rect.unit (s := S4096x2) ![512 * r.val, 0] S512x1.size (inb_col r 0), a⟩]

set_option maxHeartbeats 1000000 in
/-- A chunk frees its slot and writes two columns of each result. -/
theorem wp_eat (s : Fin 16) (b : Fin 64) (w : Memref sig .tc .vmem S4096x2 .f32) (n : Memref sig .tc .vmem S4096x2 .i32) (u : FVec F S768x64 .bf16) (r : Fin 8)
    (fw : Buf (Elt F) (w.view.loc (c : Thread nD τ))) (fn : Buf (Elt F) (n.view.loc (c : Thread nD τ))) (W : Waits sig Unit)
    (K : PUnit → sProp 𝕄) :
    iprop(awayP c X s b ∗ (w.view.loc (c : Thread nD τ) ↦[w.view.set]{fullShare} fw) ∗ (n.view.loc (c : Thread nD τ) ↦[n.view.set]{fullShare} fn) ∗ owes (c : Thread nD τ) 0 W
      ∗ (iprop(freeP c X s
          ∗ (w.view.loc (c : Thread nD τ) ↦[w.view.set]{fullShare} w.view.writes (Elt F) fw (pieces r (k0_pay30 u (tok c X b)) (k0_pay31 u (tok c X b))))
          ∗ (n.view.loc (c : Thread nD τ) ↦[n.view.set]{fullShare} n.view.writes (Elt F) fn (pieces r (k0_pay26 u (tok c X b)) (k0_pay28 u (tok c X b))))
          ∗ (∃ W', owes (c : Thread nD τ) 0 W')) -∗ K ⟨⟩)) ⊢ wp frame (wpE (defs₀ (F := F)) Variants.none c none) Set.univ (eat s b w n u r) K := by
  unfold freeP awayP eat chunkAt
  iintro ⟨⟨⟨%f, Hf⟩, Hr⟩, Hw, Hn, HW, Hk⟩
  sl_exec
  sl_step
  rw [show wp_eat.sl.v c X s b = tok c X b from readAt_landed c X s b _]
  iapply Hk
  isplitl [Hf Hf_dst Hf_src Hr]
  · isplitl [Hf]; · iexact Hf
    isplitl [Hf_dst]; · iexists _; iexact Hf_dst
    iapply (lend c X s b).2; isplitl [Hf_src]; · iexact Hf_src
    iexact Hr
  isplitl [Hw]; · iexact Hw
  isplitl [Hn]; · iexact Hn
  iexists _; iexact HW

end

/-! ## The columns of a block's eight chunks -/

/-- Row `k` modulo 512 of a chunk's column. -/
def rowIdx (k : ℕ) : S512x1.Idx := fun | 0 => ⟨k % 512, Nat.mod_lt _ (by decide)⟩ | 1 => ⟨0, by decide⟩

/-- A block whose chunk `r` has the columns `a r` and `b r`. -/
def cols {α : Type} (a b : Fin 8 → S512x1.Idx → α) : S4096x2.Idx → α := fun y =>
  (if (y 1).val = 0 then a else b) ⟨(y 0).val / 512, by have : (y 0).val < 4096 := (y 0).isLt; omega⟩
    (rowIdx (y 0).val)

/-- The first `n` chunks of a block are written. -/
def Filled {e : EltTy} (v : View sig .tc .vmem S4096x2 e) (x : S4096x2.Idx → Elt F e) (n : ℕ) (f : v.ty.Contents (Elt F)) : Prop :=
  ∀ y : S4096x2.Idx, (y 0).val < 512 * n → v.read (Elt F) f y = x y

/-- Nothing written is no demand. -/
theorem filled_zero {e : EltTy} (v : View sig .tc .vmem S4096x2 e) (x : S4096x2.Idx → Elt F e) (f : v.ty.Contents (Elt F)) : Filled v x 0 f :=
  fun y h => absurd h (by omega)
/-- Eight chunks written are the whole block. -/
theorem filled_all {e : EltTy} (v : View sig .tc .vmem S4096x2 e) (x : S4096x2.Idx → Elt F e) (f : v.ty.Contents (Elt F)) (h : Filled v x 8 f) :
    v.read (Elt F) f = x := funext fun y => h y (by have : (y 0).val < 4096 := (y 0).isLt; omega)

/-- Writing chunk `r`'s two columns adds that chunk. -/
theorem filled_succ {e : EltTy} (v : View sig .tc .vmem S4096x2 e) (a b : Fin 8 → S512x1.Idx → Elt F e) (r : Fin 8) (f : v.ty.Contents (Elt F))
    (h : Filled v (cols a b) r.val f) : Filled v (cols a b) (r.val + 1) (v.writes (Elt F) f (pieces r (a r) (b r))) := by
  intro y hy
  have h0 : (y 0).val < 4096 := (y 0).isLt
  have h1 : (y 1).val < 2 := (y 1).isLt
  by_cases hr : (y 0).val < 512 * r.val
  · rw [View.read_writes_cons_unit_of_not_mem v f _ _ _ y rfl (0 : Fin 2) (by left; exact hr),
      View.read_writes_cons_unit_of_not_mem v f _ _ _ y rfl (0 : Fin 2) (by left; exact hr)]
    exact h y hr
  · have hq : (y 0).val / 512 = r.val := by omega
    have hq' : (⟨(y 0).val / 512, by omega⟩ : Fin 8) = r := Fin.ext hq
    have row : (y 0).val = 512 * r.val + (y 0).val % 512 := by omega
    by_cases hc : (y 1).val = 0
    · refine (View.read_writes_cons_unit_of_not_mem v f _ _ _ y rfl (1 : Fin 2) (by left; show (y 1).val < 1; omega)).trans ?_
      refine (View.read_writes_cons_unit_of_mem v f (inb_col r 0) (a r) [] y (rowIdx (y 0).val) rfl (Fin.forall_fin_two.mpr ⟨row, hc⟩)).trans ?_
      unfold cols; rw [if_pos hc, hq']
    · refine (View.read_writes_cons_unit_of_mem v f (inb_col r 1) (b r) _ y (rowIdx (y 0).val) rfl
        (Fin.forall_fin_two.mpr ⟨row, by show (y 1).val = 1; omega⟩)).trans ?_
      unfold cols; rw [if_neg hc, hq']

end Cert.KernelIdeal.Router

end
-- ==== Proof.KernelIdeal.Point.lean ====
/- One grid point: the ring before it and after it, and what it leaves in the two blocks of results. -/
module

public import proofs.«01_k».proof.Proof.KernelIdeal.Eat
public import Idealize.ShloMosaic.Lib.VecWindow

@[expose] public section

set_option maxRecDepth 16384

noncomputable section

namespace Cert.KernelIdeal.Router

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (Pipeline.UD sig nD τ) ℕ

/-! ## The states -/

/-- The ring before point `k`: from the second point to the last, its own eight blocks are on their way. -/
def ringAt (k : ℕ) : Fin 16 → Option (Fin 64) := fun s => if 1 ≤ k ∧ k < 8 ∧ s.val / 8 = k % 2 then some (Fin.ofNat 64 (8 * k + s.val % 8)) else none
/-- The states with the blocks of point `k` of a list of chunks set going. -/
def started (k : ℕ) : List (Fin 8) → (Fin 16 → Option (Fin 64)) → (Fin 16 → Option (Fin 64))
  | [], σ => σ
  | r :: l, σ => started k l (Function.update σ (slotOf k r) (some (blkOf k r)))
/-- The states with the slots of point `k` of a list of chunks freed. -/
def eaten (k : ℕ) : List (Fin 8) → (Fin 16 → Option (Fin 64)) → (Fin 16 → Option (Fin 64))
  | [], σ => σ
  | r :: l, σ => eaten k l (Function.update σ (slotOf k r) none)

/-- One point's chunks have different slots. -/
theorem slotOf_inj (k : ℕ) {r r' : Fin 8} (h : slotOf k r = slotOf k r') : r = r' := by
  have := congrArg Fin.val h; simp only [slotOf] at this; exact Fin.ext (by omega)

/-- The ring once point `k` has its own blocks on their way. -/
def own (k : ℕ) : Fin 16 → Option (Fin 64) := if k = 0 then started 0 eight (ringAt 0) else ringAt k
/-- The ring once point `k` has set the next point's blocks going. -/
def next (k : ℕ) : Fin 16 → Option (Fin 64) := if k < 7 then started (k + 1) eight (own k) else own k

/-- The first point's slots are free before it. -/
theorem ring_free : ∀ (r : Fin 8), ringAt 0 (slotOf 0 r) = none := by decide +kernel
/-- The next point's slots are free when this point begins. -/
theorem own_free : ∀ (k : Fin 8) (r : Fin 8), k.val < 7 → own k.val (slotOf (k.val + 1) r) = none := by decide +kernel
/-- This point's slots are away when it waits for them. -/
theorem next_away : ∀ (k : Fin 8) (r : Fin 8), next k.val (slotOf k.val r) = some (blkOf k.val r) := by decide +kernel
/-- Once all eight chunks are read, the ring is as the next point finds it. -/
theorem next_eaten (k : Fin 8) : eaten k.val eight (next k.val) = ringAt (k.val + 1) :=
  funext fun s => (by decide +kernel : ∀ (k : Fin 8) (s : Fin 16), eaten k.val eight (next k.val) s = ringAt (k.val + 1) s) k s

section
variable (c : Dev nD) (X : Buf (Elt F) (srcM.view.loc (c : Thread nD τ)))

/-- A free slot's state. -/
theorem stateP_none (s : Fin 16) : stateP c X s none = freeP c X s := rfl
/-- The state of a slot with a copy away. -/
theorem stateP_some (s : Fin 16) (b : Fin 64) : stateP c X s (some b) = awayP c X s b := rfl

/-! ## The steps of a list of chunks -/

/-- The blocks of a list of chunks set going, one after another. -/
theorem wp_issues (k : ℕ) (K : PUnit → sProp 𝕄) : ∀ (l : List (Fin 8)) (σ : Fin 16 → Option (Fin 64)), l.Nodup → (∀ r ∈ l, σ (slotOf k r) = none) →
    (iprop(ringP c X σ ∗ (ringP c X (started k l σ) -∗ K ⟨⟩))
      ⊢ wp frame (wpE (defs₀ (F := F)) Variants.none c none) Set.univ (each (fun r => issue (slotOf k r) (blkOf k r)) l) K)
  | [], σ, _, _ => by
    unfold each started
    iintro ⟨H, Hk⟩
    sl_step
    iapply Hk; iexact H
  | r :: l, σ, hn, hσ => by
    have hl := wp_issues k K l (Function.update σ (slotOf k r) (some (blkOf k r))) (List.nodup_cons.mp hn).2
      (fun r' hr' => by
        have hne : slotOf k r' ≠ slotOf k r := fun e => (List.nodup_cons.mp hn).1 (slotOf_inj k e ▸ hr')
        rw [Function.update_of_ne hne]
        exact hσ r' (List.mem_cons_of_mem _ hr'))
    unfold each started
    rw [wp_bind]
    unfold ringP at hl ⊢
    rw [Ring.AtW_focus (stateP c X) σ (slotOf k r), hσ r List.mem_cons_self, stateP_none]
    iintro ⟨⟨Hs, Hr⟩, Hk⟩
    iapply wp_issue
    isplitl [Hs]; · iexact Hs
    iintro Ha
    iapply hl
    isplitl [Ha Hr]
    · iapply Ring.AtW_update
      rw [stateP_some]
      isplitl [Ha]; · iexact Ha
      iexact Hr
    iexact Hk

/-- What chunk `r` of point `k` writes in the block of weights, its two columns. -/
abbrev weightA (u : FVec F S768x64 .bf16) (k : ℕ) (r : Fin 8) : S512x1.Idx → Elt F .f32 := k0_pay30 u (tok c X (blkOf k r))
/-- The second column of weights. -/
abbrev weightB (u : FVec F S768x64 .bf16) (k : ℕ) (r : Fin 8) : S512x1.Idx → Elt F .f32 := k0_pay31 u (tok c X (blkOf k r))
/-- And in the block of indices. -/
abbrev indexA (u : FVec F S768x64 .bf16) (k : ℕ) (r : Fin 8) : S512x1.Idx → Elt F .i32 := k0_pay26 u (tok c X (blkOf k r))
/-- The second column of indices. -/
abbrev indexB (u : FVec F S768x64 .bf16) (k : ℕ) (r : Fin 8) : S512x1.Idx → Elt F .i32 := k0_pay28 u (tok c X (blkOf k r))
/-- The block of weights and the block of indices of point `k`. -/
def weights (u : FVec F S768x64 .bf16) (k : ℕ) : Vec F S4096x2 .f32 := cols (weightA c X u k) (weightB c X u k)
/-- The block of indices of point `k`. -/
def indices (u : FVec F S768x64 .bf16) (k : ℕ) : Vec F S4096x2 .i32 := cols (indexA c X u k) (indexB c X u k)

/-- The chunks of a list, consecutive from chunk `n`, one after another. -/
theorem wp_eats (k : ℕ) (w : Memref sig .tc .vmem S4096x2 .f32) (v : Memref sig .tc .vmem S4096x2 .i32) (u : FVec F S768x64 .bf16) (K : PUnit → sProp 𝕄) :
    ∀ (l : List (Fin 8)) (n : ℕ) (σ : Fin 16 → Option (Fin 64)) (fw : Buf (Elt F) (w.view.loc (c : Thread nD τ))) (fv : Buf (Elt F) (v.view.loc (c : Thread nD τ)))
      (W : Waits sig Unit),
      l.map Fin.val = List.range' n l.length → (∀ r ∈ l, σ (slotOf k r) = some (blkOf k r)) →
      Filled w.view (weights c X u k) n fw → Filled v.view (indices c X u k) n fv →
    (iprop(ringP c X σ ∗ (w.view.loc (c : Thread nD τ) ↦[w.view.set]{fullShare} fw) ∗ (v.view.loc (c : Thread nD τ) ↦[v.view.set]{fullShare} fv)
        ∗ owes (c : Thread nD τ) 0 W
        ∗ (iprop(ringP c X (eaten k l σ)
            ∗ (∃ gw, ⌜Filled w.view (weights c X u k) (n + l.length) gw⌝ ∗ (w.view.loc (c : Thread nD τ) ↦[w.view.set]{fullShare} gw))
            ∗ (∃ gv, ⌜Filled v.view (indices c X u k) (n + l.length) gv⌝ ∗ (v.view.loc (c : Thread nD τ) ↦[v.view.set]{fullShare} gv))
            ∗ (∃ W', owes (c : Thread nD τ) 0 W')) -∗ K ⟨⟩))
      ⊢ wp frame (wpE (defs₀ (F := F)) Variants.none c none) Set.univ (each (fun r => eat (slotOf k r) (blkOf k r) w v u r) l) K)
  | [], n, σ, fw, fv, W, _, _, hw, hv => by
    unfold each eaten
    iintro ⟨H, Hw, Hv, HW, Hk⟩
    sl_step
    iapply Hk
    isplitl [H]; · iexact H
    isplitl [Hw]
    · iexists _; isplitr; · ipureintro; exact hw
      iexact Hw
    isplitl [Hv]
    · iexists _; isplitr; · ipureintro; exact hv
      iexact Hv
    iexists _; iexact HW
  | r :: l, n, σ, fw, fv, W, hn, hσ, hw, hv => by
    simp only [List.map_cons, List.length_cons, List.range'_succ, List.cons.injEq] at hn
    obtain ⟨rfl, hn⟩ := hn
    have hd : r ∉ l := fun h => by
      have := List.mem_map_of_mem (f := Fin.val) h
      rw [hn, List.mem_range'_1] at this; omega
    have hl := fun fw fv W => wp_eats k w v u K l (r.val + 1) (Function.update σ (slotOf k r) none) fw fv W hn
      (fun r' hr' => by
        have hne : slotOf k r' ≠ slotOf k r := fun e => hd (slotOf_inj k e ▸ hr')
        rw [Function.update_of_ne hne]
        exact hσ r' (List.mem_cons_of_mem _ hr'))
    unfold each eaten
    rw [wp_bind, List.length_cons, show r.val + (l.length + 1) = r.val + 1 + l.length by omega]
    unfold ringP at hl ⊢
    rw [Ring.AtW_focus (stateP c X) σ (slotOf k r), hσ r List.mem_cons_self, stateP_some]
    iintro ⟨⟨Hs, Hr⟩, Hw, Hv, HW, Hk⟩
    iapply wp_eat
    isplitl [Hs]; · iexact Hs
    isplitl [Hw]; · iexact Hw
    isplitl [Hv]; · iexact Hv
    isplitl [HW]; · iexact HW
    iintro ⟨Hs, Hw, Hv, ⟨%W', HW⟩⟩
    iapply (hl _ _ W' (filled_succ w.view _ _ r fw hw) (filled_succ v.view _ _ r fv hv))
    isplitl [Hs Hr]
    · iapply Ring.AtW_update
      rw [stateP_none]
      isplitl [Hs]; · iexact Hs
      iexact Hr
    isplitl [Hw]; · iexact Hw
    isplitl [Hv]; · iexact Hv
    isplitl [HW]; · iexact HW
    iexact Hk

/-! ## The body -/

/-- The starts of a point. -/
theorem wp_own (t : Fin grid0.N) (Q : PUnit → sProp 𝕄) :
    iprop(ringP c X (ringAt t.val) ∗ (ringP c X (own t.val) -∗ Q ⟨⟩))
      ⊢ wp frame (wpE (defs₀ (F := F)) Variants.none c none) Set.univ (startsOwn (grid0.coords t)) Q := by
  unfold startsOwn
  by_cases h : k0_cond1 (grid0.coords t) = 1#1
  · have ht := (cond1_iff t).mp h
    rw [dif_pos h, show startOwn (F := F) (grid0.coords t) h = fun r => issue (slotOf t.val r) (blkOf t.val r) from funext (startOwn_eq t h), ht,
      show own 0 = started 0 eight (ringAt 0) from rfl]
    exact wp_issues c X 0 Q eight (ringAt 0) (by decide) fun r _ => ring_free r
  · have ht := fun e => h ((cond1_iff t).mpr e)
    rw [dif_neg h, show own t.val = ringAt t.val from if_neg ht]
    iintro ⟨H, Hk⟩
    sl_step
    iapply Hk; iexact H
/-- Starting the next point's copies. -/
theorem wp_next (t : Fin grid0.N) (Q : PUnit → sProp 𝕄) :
    iprop(ringP c X (own t.val) ∗ (ringP c X (next t.val) -∗ Q ⟨⟩))
      ⊢ wp frame (wpE (defs₀ (F := F)) Variants.none c none) Set.univ (startsNext (grid0.coords t)) Q := by
  unfold startsNext
  by_cases h : k0_cond2 (grid0.coords t) = 1#1
  · have ht := (cond2_iff t).mp h
    rw [dif_pos h, show startNext (F := F) (grid0.coords t) h = fun r => issue (slotOf (t.val + 1) r) (blkOf (t.val + 1) r) from funext (startNext_eq t h),
      show next t.val = started (t.val + 1) eight (own t.val) from if_pos ht]
    exact wp_issues c X (t.val + 1) Q eight (own t.val) (by decide) fun r _ => own_free ⟨t.val, by omega⟩ r ht
  · have ht := fun e => h ((cond2_iff t).mpr e)
    rw [dif_neg h, show next t.val = own t.val from if_neg ht]
    iintro ⟨H, Hk⟩
    sl_step
    iapply Hk; iexact H

/-- The load of the weights. -/
theorem wp_load (e : Memref sig .tc .vmem S768x64 .f32) (he : e.IsWhole) (x : Vec F S768x64 .f32) (K : Vec F S768x64 .f32 → sProp 𝕄) :
    iprop(owns (c : Thread nD τ) e fullShare x ∗ (owns (c : Thread nD τ) e fullShare x -∗ K x))
      ⊢ wp frame (wpE (defs₀ (F := F)) Variants.none c none) Set.univ
        (Prog.lift (.load e (Rect.unit (s := S768x64) ![0, 0] S768x64.size Facts₀.inb_S768x64_S768x64_0_0).toLoadRect (View.loadsAt_vmem h_S768x64))) K := by
  unfold owns
  iintro ⟨⟨%fe, %hfe, He⟩, Hk⟩
  have hv : e.view.readAt (Elt F) (Rect.unit (s := S768x64) ![0, 0] S768x64.size Facts₀.inb_S768x64_S768x64_0_0).toLoadRect fe = x :=
    (View.readAt_full e.view fe _).trans hfe
  sl_exec
  sl_step
  iapply Hk
  iexists _; isplitr; · ipureintro; exact hfe
  iexact He

set_option maxHeartbeats 1000000 in
/-- A point's body takes the ring from its state before the point to the one after it and leaves the point's weights and indices in the two blocks. -/
theorem wp_point (t : Fin grid0.N) (e : Memref sig .tc .vmem S768x64 .f32) (he : e.IsWhole) (w : Memref sig .tc .vmem S4096x2 .f32) (v : Memref sig .tc .vmem S4096x2 .i32)
    (x : Vec F S768x64 .f32) (W : Waits sig Unit) (K : PUnit → sProp 𝕄) :
    iprop(ringP c X (ringAt t.val) ∗ owns (c : Thread nD τ) e fullShare x ∗ (∃ d, owns (c : Thread nD τ) w fullShare d) ∗ (∃ d, owns (c : Thread nD τ) v fullShare d)
        ∗ owes (c : Thread nD τ) 0 W
        ∗ (iprop(ringP c X (ringAt (t.val + 1)) ∗ owns (c : Thread nD τ) e fullShare x ∗ owns (c : Thread nD τ) w fullShare (weights c X (k0_pay6 x) t.val)
            ∗ owns (c : Thread nD τ) v fullShare (indices c X (k0_pay6 x) t.val) ∗ (∃ W', owes (c : Thread nD τ) 0 W')) -∗ K ⟨⟩))
      ⊢ wp frame (wpE (defs₀ (F := F)) Variants.none c none) Set.univ (routerBody (grid0.coords t) e w v) K := by
  have htN : t.val < 8 := t.isLt
  unfold routerBody
  rw [wp_bind]
  iintro ⟨H, He, Hw, Hv, HW, Hk⟩
  iapply (wp_own c X t)
  isplitl [H]; · iexact H
  iintro H
  rw [wp_bind]
  iapply (wp_next c X t)
  isplitl [H]; · iexact H
  iintro H
  rw [show chunk (F := F) (grid0.coords t) w v = fun u r => eat (slotOf t.val r) (blkOf t.val r) w v u r from funext fun u => funext fun r => chunk_eq t w v u r]
  rw [wp_bind]
  iapply (wp_load c e he x)
  isplitl [He]; · iexact He
  iintro He
  unfold owns
  icases Hw with ⟨%dw, %fw, -, Hw⟩
  icases Hv with ⟨%dv, %fv, -, Hv⟩
  iapply (wp_eats c X t.val w v (k0_pay6 x) K eight 0 (next t.val) fw fv W (by decide) (fun r _ => next_away ⟨t.val, htN⟩ r) (filled_zero _ _ _) (filled_zero _ _ _))
  isplitl [H]; · iexact H
  isplitl [Hw]; · iexact Hw
  isplitl [Hv]; · iexact Hv
  isplitl [HW]; · iexact HW
  rw [show eaten t.val eight (next t.val) = ringAt (t.val + 1) from next_eaten ⟨t.val, htN⟩]
  iintro ⟨H, ⟨%gw, %hw, Hw⟩, ⟨%gv, %hv, Hv⟩, HW⟩
  iapply Hk
  isplitl [H]; · iexact H
  isplitl [He]; · iexact He
  isplitl [Hw]
  · iexists _; isplitr; · ipureintro; exact filled_all _ _ _ hw
    iexact Hw
  isplitl [Hv]
  · iexists _; isplitr; · ipureintro; exact filled_all _ _ _ hv
    iexact Hv
  iexact HW

end

end Cert.KernelIdeal.Router

end
-- ==== Proof.KernelIdeal.Launch.lean ====
/- The launch: the proof data of the pipeline, what the launch hands the ring and takes back, the run, and the frame. -/
module

public import proofs.«01_k».proof.Proof.KernelIdeal.Point
public import Idealize.ShloMosaic.Lib.Claim

@[expose] public section

set_option maxRecDepth 16384

noncomputable section

namespace Cert.KernelIdeal.Router

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region, for a body with copies of its own -/

set_option maxHeartbeats 800000 in
/-- @main is the host lines before the region, the region and the host lines after it. -/
theorem main_around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The operand the body copies itself. -/
def streamed : Finset (Ref sig .tc) := {main_v0}
/-- The tokens are among the buffers that bypass the windows. -/
theorem streamed_sub : streamed ⊆ Pipeline.restRefs sig spec0 := by decide

/-- The lines after the region do not touch it. -/
theorem tail_but : ∀ ops ∈ ([hostOps1] : List (List (HloOp τ sig (Elt F)))), ∀ op ∈ ops,
    op.bufs ⊆ Pipeline.tailRefsBut sig Pipeline.Prefetch.none spec0 streamed := by
  intro ops hops op hop
  obtain rfl := List.mem_singleton.mp hops
  refine Pipeline.sub_tailRefsBut Pipeline.Prefetch.none spec0 streamed op ((List.forall_iff_forall_mem.mp hostOps1_sub) op hop) (fun j => j.elim0) ?_
  intro b hb
  obtain rfl := Finset.mem_singleton.mp hb
  simp only [hostOps1, List.mem_cons, List.mem_nil_iff, or_false] at hop
  rcases hop with rfl | rfl <;> simp only [StableHlo.reshape_bufs, Finset.mem_insert, Finset.mem_singleton, not_or] <;>
    and_intros <;> exact StableHlo.devRef_ne_of_ne (by decide)

/-- The copies' semaphores are the region's own. -/
theorem cells_own : Pipeline.OwnSemFacts spec0 cellR := by decide

/-! ## Into the ring and out of it -/

abbrev slotSet (s : Fin 16) : Finset S16x512x768.Idx := (Rect.unit (s := S16x512x768) ![s.val, 0, 0] S1x512x768.size (inb_slot s)).set
/-- The places of a slot. -/
theorem slotM_set (s : Fin 16) : (slotM s).view.set = slotSet s := by
  simp only [slotM, Memref.view_squeeze, View.set_reshape]; exact View.set_slice_whole _ _
/-- Two slots share no place. -/
theorem slots_disjoint (s s' : Fin 16) (h : s ≠ s') : Disjoint (slotSet s) (slotSet s') :=
  Ring.lead_disjoint (s := S16x512x768) (0 : Fin 3) 1 (fun s : Fin 16 => (![s.val, 0, 0] : Fin 3 → Nat)) S1x512x768.size inb_slot (fun s => by simp) rfl s s' h
/-- The slots are the whole buffer. -/
theorem slots_cover : Finset.univ.biUnion slotSet = Finset.univ :=
  Ring.lead_cover (s := S16x512x768) (0 : Fin 3) 1 (fun s : Fin 16 => (![s.val, 0, 0] : Fin 3 → Nat)) S1x512x768.size inb_slot (fun s => by simp)
    (fun s a ha => by fin_cases a <;> first | exact absurd rfl ha | rfl) rfl (fun a ha => by fin_cases a <;> first | exact absurd rfl ha | rfl) rfl

section InOut
variable (c : Dev nD) (X : Buf (Elt F) (srcM.view.loc (c : Thread nD τ)))

/-- The scratch, each slot at something. -/
abbrev slotsP : sProp 𝕄 := bigSep Finset.univ fun s : Fin 16 => iprop(∃ f, slotP (F := F) c s f)

/-- Owning a slot is owning its part of the buffer. -/
theorem slotP_eq (s : Fin 16) (f : SlotBuf (F := F) c s) : slotP (F := F) c s f = (((c : Thread nD τ).loc cc0_scratch0) ↦[slotSet s]{fullShare} f : sProp 𝕄) := by
  unfold slotP; rw [slotM_set]; rfl

/-- The whole buffer gives the sixteen slots. -/
theorem slots_in : iprop(∃ f : Buf (Elt F) ((c : Thread nD τ).loc cc0_scratch0), ((c : Thread nD τ).loc cc0_scratch0) ↦{fullShare} f) ⊢ (slotsP (F := F) c : sProp 𝕄) := by
  have key : ∀ f : Buf (Elt F) ((c : Thread nD τ).loc cc0_scratch0), (((c : Thread nD τ).loc cc0_scratch0) ↦{fullShare} f : sProp 𝕄) ⊢ slotsP c := fun f => by
    rw [Ring.pointsTo_blocks slotSet slots_disjoint slots_cover f]
    refine BI.bigSep_mono fun s _ => ?_
    have h : slotP (F := F) c s f ⊢ (iprop(∃ f, slotP (F := F) c s f) : sProp 𝕄) := by iintro H; iexists f; iexact H
    exact Eq.mp (congrArg (fun P : sProp 𝕄 => P ⊢ (iprop(∃ f, slotP (F := F) c s f) : sProp 𝕄)) (slotP_eq c s f)) h
  iintro ⟨%f, H⟩
  iapply (key f); iexact H
set_option maxHeartbeats 1000000 in
theorem slots_out : (slotsP (F := F) c : sProp 𝕄) ⊢ iprop(∃ f : Buf (Elt F) ((c : Thread nD τ).loc cc0_scratch0), ((c : Thread nD τ).loc cc0_scratch0) ↦{fullShare} f) := by
  have e : (slotsP (F := F) c : sProp 𝕄) = bigSep Finset.univ fun s : Fin 16 => iprop(∃ f, ((c : Thread nD τ).loc cc0_scratch0) ↦[slotSet s]{fullShare} f) :=
    BI.bigSep_congr fun s _ => congrArg (fun P : Buf (Elt F) ((c : Thread nD τ).loc cc0_scratch0) → sProp 𝕄 => (iprop(∃ f, P f) : sProp 𝕄)) (funext fun f => slotP_eq c s f)
  rw [e]
  exact Ring.pointsTo_blocks_join_exists (U := Pipeline.UD sig nD τ) (ℓ := (c : Thread nD τ).loc cc0_scratch0) (q := fullShare) slotSet slots_disjoint slots_cover (fun _ => (Scalar.ofBits .f32 0#32 : F .f32))

/-- The ring with every slot free: the semaphores at zero, the slots, the tokens whole. -/
theorem ring_all_free (σ : Fin 16 → Option (Fin 64)) (h : ∀ s, σ s = none) :
    ringP c X σ = iprop(Pipeline.ownSems0 (Ix := Unit) (Name := ℕ) (U := Pipeline.UD sig nD τ) (Lvl := ℕ) (Val := Elt F) (τ := τ) cellR c
      ∗ slotsP (F := F) c ∗ ((c : Thread nD τ).loc main_v0) ↦{fullShare} X) := by
  unfold ringP Ring.AtW
  rw [show (fun k => stateP c X k (σ k)) = fun k => freeP c X k from funext fun k => by rw [h]; rfl]
  unfold freeP
  rw [bigSep_sep', bigSep_sep']
  have e : (((c : Thread nD τ).loc main_v0) ↦{fullShare} X : sProp 𝕄) = bigSep Finset.univ fun s : Fin 16 => wholeP c X s :=
    ShareLeaves.pointsTo_leaves (ℓ := (c : Thread nD τ).loc main_v0) Finset.univ X 4 fullShare
  rw [e]; rfl

end InOut

/-! ## The proof data -/

/-- The weights the point loads, rounded. -/
abbrev rounded (c : Dev nD) (t : Fin cfg0.N) : FVec F S768x64 .bf16 := k0_pay6 (iblk m c 0 t)

/-- The invariant before point `k`. -/
def inv (c : Dev nD) (k : ℕ) : sProp 𝕄 := iprop((∃ r, prngReg c r) ∗ ringP c (V m c main_v0) (ringAt k))

/-- The proof data: the weights' block in place, the two blocks of results at what the point computes, the ring between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => weights c (V m c main_v0) (rounded m c t) t.val
    | ⟨2, _⟩ => indices c (V m c main_v0) (rounded m c t) t.val
  Φ t := inv m c t.val
  q _ := fullShare
  owed _ := 0

/-- Each window's array begins as the host lines leave it. -/
theorem A_eq (c : Dev nD) (w : Fin cfg0.W) : (dats m 0 c).A w = V m c (Pipeline.arrRef spec0 w) := by
  dsimp only [dats]
/-- The weights' block is kept. -/
theorem after0 (c : Dev nD) (t : Fin cfg0.N) : (dats m 0 c).after 0 t = iblk m c 0 t := by dsimp only [dats]
/-- What a point leaves in its block of results: the weights. -/
theorem after1 (c : Dev nD) (t : Fin cfg0.N) : (dats m 0 c).after 1 t = weights c (V m c main_v0) (rounded m c t) t.val := by dsimp only [dats]
/-- And the indices. -/
theorem after2 (c : Dev nD) (t : Fin cfg0.N) : (dats m 0 c).after 2 t = indices c (V m c main_v0) (rounded m c t) t.val := by dsimp only [dats]

/-- The weights' staging buffer holds their block at every point. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]) t d).trans (by unfold Dat.fetched Dat.blockOf iblk; rw [A_eq]; rfl)

/-! ## The body obligation -/

/-- What the body is called with, the windows one by one, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d)))
/-- What a point leaves. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t))

set_option maxHeartbeats 1200000 in
/-- The body at any point. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq]
  simp only [before0]
  rw [after0, after1, after2]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv
  iintro ⟨⟨Hg, HR⟩, ⟨%W, -, HW⟩, ⟨%d0, H0⟩, ⟨%d1, H1⟩, ⟨%d2, H2⟩⟩
  iapply (wp_point c (V m c main_v0) t _ (hstage0_0 ((cfg0.slots t 0).cast nbuf0_0)) _ _ (iblk m c 0 t) W _)
  isplitl [HR]; · iexact HR
  isplitl [H0]; · iexact H0
  isplitl [H1]; · iexists _; iexact H1
  isplitl [H2]; · iexists _; iexact H2
  isplitl [HW]; · iexact HW
  iintro ⟨HR, H0, H1, H2, ⟨%W', HW⟩⟩
  isplitl [Hg HR]
  · isplitl [Hg]; · iexact Hg
    iexact HR
  isplitl [HW]
  · iexists W'; isplitr; · ipureintro; exact fun _ _ => Or.inl trivial
    iexact HW
  isplitl [H0]; · iexact H0
  isplitl [H1]; · iexact H1
  iexact H2

/-- The body's row of the table is the body. -/
theorem row_eq (t : Fin cfg0.N) : defs₀ (F := F) .tc cfg0.body (cfg0.bodyArgs t (cfg0.slots t)) = bodyAt0 t := by
  unfold defs₀; rw [Defs.onTc_tc]

/-- The body obligation. -/
theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

/-- What the launch hands over is the invariant before the first point, and the invariant after the last is what it takes back. -/
theorem handed (c : Dev nD) (k : ℕ) (h : ∀ s, ringAt k s = none) : (Pipeline.ΦD cellR spec0 streamed (V m) c : sProp 𝕄) ⊣⊢ inv m c k := by
  have e : (bigSep streamed (fun b => ((c : Thread nD τ).loc b) ↦{fullShare} V m c b) : sProp 𝕄) = iprop(((c : Thread nD τ).loc main_v0) ↦{fullShare} V m c main_v0) := by
    rw [BI.bigSep_eq_bigSepL_of_eq [main_v0] (by decide) (by decide)]; rfl
  unfold inv
  rw [Pipeline.ΦD_eq, scopedRest0_eq, e, ring_all_free c _ _ h]
  constructor
  · iintro ⟨HS, Hg, Hc, HX⟩
    isplitl [Hg]; · iexact Hg
    isplitl [Hc]; · iexact Hc
    isplitl [HS]; · iapply (slots_in c); iexact HS
    iexact HX
  · iintro ⟨Hg, Hc, HS, HX⟩
    isplitl [HS]; · iapply (slots_out c); iexact HS
    isplitl [Hg]; · iexact Hg
    isplitl [Hc]; · iexact Hc
    iexact HX
/-- Before the first point no copy is away. -/
theorem ring_first : ∀ s, ringAt 0 s = none := by decide +kernel
/-- After the last point no copy is away. -/
theorem ring_last : ∀ s, ringAt 8 s = none := by decide +kernel

/-! ## The run -/

set_option backward.isDefEq.respectTransparency.types false in
set_option maxHeartbeats 800000 in
/-- Every weakly fair execution ends, with the arrays at what the proof data says and every semaphore at zero. -/
theorem run : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 cellR defs₀ Variants.none cells_own streamed streamed_sub m ρ main
    (hbody := fun c => (obligation m c).loose) (hshare := fun c => (dats m 0 c).share_full fun _ => rfl)
    (howed := fun _ _ => rfl) (V₀ := V0 m) (opss := [hostOps1]) (hsub := tail_but) (hfresh := sfx_fresh) (hkeep := sfx_keeps)
    (hmain := main_around m Variants.none) (hA := A_eq m) (hin := fun c => (handed m c 0 ring_first).1) (hout := fun c => (handed m c 8 ring_last).2)

/-- A buffer that neither the lines after the region nor the pipeline write ends as the region found it. -/
theorem tail_keeps (c : Dev nD) (b : Ref sig .tc) (h3 : b ≠ main_v3) (h4 : b ≠ main_v4) (ha : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.reshape_writes, Finset.mem_singleton]
      exact ⟨StableHlo.devRef_ne_of_ne h3, StableHlo.devRef_ne_of_ne h4⟩)),
    Pipeline.withArrays_of_ne _ c (V0 m c) _ b ha]

/-- The frame: the arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(((h.1 c).2 main_arg0 (Pipeline.mem_restRefs_of main_arg0 (by decide) (by decide))).trans
        (tail_keeps m c main_arg0 (by decide) (by decide) (by decide))).trans (V_main_arg0 m c),
      (((h.1 c).2 main_arg1 (Pipeline.mem_restRefs_of main_arg1 (by decide) (by decide))).trans
        (tail_keeps m c main_arg1 (by decide) (by decide) (by decide))).trans (V_main_arg1 m c)⟩, h.2⟩) (run m ρ)

end Cert.KernelIdeal.Router

end
-- ==== Proof.Value.Arrays.lean ====
/- What the kernel's two result arrays hold after its grid, and after the host's reshapes. -/
module

public import proofs.«01_k».proof.Proof.KernelIdeal.Launch
public import Idealize.ShloMosaic.Lib.Pointwise
public import Idealize.ShloMosaic.Lib.StableHlo.Run

@[expose] public section

noncomputable section

namespace Cert.KernelIdeal.Router

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The weights' window stays at block zero, and point `t`'s block of results is block `t`. -/
theorem index0 : ∀ t : Fin cfg0.N, win0_0.index t (0 : Fin 2) = 0 ∧ win0_0.index t (1 : Fin 2) = 0 :=
  (by decide +kernel : ∀ t : Fin grid0.N, _)
/-- Point `t`'s block of weights is block `t`. -/
theorem index1 : ∀ t : Fin cfg0.N, win0_1.index t (0 : Fin 2) = t.val ∧ win0_1.index t (1 : Fin 2) = 0 :=
  (by decide +kernel : ∀ t : Fin grid0.N, _)
/-- And its block of indices. -/
theorem index2 : ∀ t : Fin cfg0.N, win0_2.index t (0 : Fin 2) = t.val ∧ win0_2.index t (1 : Fin 2) = 0 :=
  (by decide +kernel : ∀ t : Fin grid0.N, _)

/-- The weights' block is the whole array. -/
theorem block0 (c : Dev nD) (t : Fin cfg0.N) : iblk m c 0 t = V m c main_v1 := by
  funext j
  show V m c main_v1 (((cfg0.win 0).blk t).view.emb j) = V m c main_v1 j
  obtain ⟨e0, e1⟩ := index0 t
  congr 1
  funext a; apply Fin.ext
  match a with
  | ⟨0, _⟩ => show win0_0.index t (0 : Fin 2) * 768 + 1 * (j 0).val = (j 0).val; omega
  | ⟨1, _⟩ => show win0_0.index t (1 : Fin 2) * 64 + 1 * (j 1).val = (j 1).val; omega

/-- Row `i` of the result is row `i mod 4096` of block `i / 4096`. -/
def local_ (i : S32768x2.Idx) : S4096x2.Idx :=
  ix2 (n0 := 4096) (n1 := 2) ⟨(i 0).val % 4096, Nat.mod_lt _ (by decide)⟩ (i 1)

/-- The weights that the grid leaves, and the indices. -/
def weightsAll (c : Dev nD) : Vec F S32768x2 .f32 := fun i =>
  weights c (V m c main_v0) (k0_pay6 (V m c main_v1)) ((i 0).val / 4096) (local_ i)
/-- The indices that the grid leaves. -/
def indicesAll (c : Dev nD) : Vec F S32768x2 .i32 := fun i =>
  indices c (V m c main_v0) (k0_pay6 (V m c main_v1)) ((i 0).val / 4096) (local_ i)

/-- Where a place of point `t`'s block of weights lies in the array. -/
theorem emb1 (t : Fin cfg0.N) (j : S4096x2.Idx) : (((cfg0.win 1).blk t).view.emb j 0).val = 4096 * t.val + (j 0).val
    ∧ (((cfg0.win 1).blk t).view.emb j 1).val = (j 1).val := by
  obtain ⟨e0, e1⟩ := index1 t
  constructor
  · show win0_1.index t (0 : Fin 2) * 4096 + 1 * (j 0).val = _; omega
  · show win0_1.index t (1 : Fin 2) * 2 + 1 * (j 1).val = _; omega
/-- And a place of its block of indices. -/
theorem emb2 (t : Fin cfg0.N) (j : S4096x2.Idx) : (((cfg0.win 2).blk t).view.emb j 0).val = 4096 * t.val + (j 0).val
    ∧ (((cfg0.win 2).blk t).view.emb j 1).val = (j 1).val := by
  obtain ⟨e0, e1⟩ := index2 t
  constructor
  · show win0_2.index t (0 : Fin 2) * 4096 + 1 * (j 0).val = _; omega
  · show win0_2.index t (1 : Fin 2) * 2 + 1 * (j 1).val = _; omega

/-- An index whose coordinates are those of a place in block `t` is that place. -/
theorem place (t : ℕ) (j : S4096x2.Idx) (i : S32768x2.Idx) (h0 : (i 0).val = 4096 * t + (j 0).val) (h1 : (i 1).val = (j 1).val) :
    (i 0).val / 4096 = t ∧ local_ i = j := by
  have hj : (j 0).val < 4096 := (j 0).isLt
  refine ⟨by omega, ?_⟩
  funext a; apply Fin.ext
  match a with
  | ⟨0, _⟩ => show (i 0).val % 4096 = (j 0).val; omega
  | ⟨1, _⟩ => exact h1

/-- What a point writes back is its block of the whole. -/
theorem flushed1 (c : Dev nD) (t : Fin cfg0.N) : (dats m 0 c).flushed 1 t = ((cfg0.win 1).blk t).view.read (Elt F) (weightsAll m c) := by
  show (cfg0.win 1).cut (grid0.coords t) ((dats m 0 c).after 1 t) = _
  rw [after1, rounded, block0]
  funext j
  obtain ⟨e, e'⟩ := place t.val j (((cfg0.win 1).blk t).view.emb j) (emb1 t j).1 (emb1 t j).2
  show weights c (V m c main_v0) (k0_pay6 (V m c main_v1)) t.val j = weightsAll m c (((cfg0.win 1).blk t).view.emb j)
  unfold weightsAll
  rw [e, e']
/-- The same of the indices. -/
theorem flushed2 (c : Dev nD) (t : Fin cfg0.N) : (dats m 0 c).flushed 2 t = ((cfg0.win 2).blk t).view.read (Elt F) (indicesAll m c) := by
  show (cfg0.win 2).cut (grid0.coords t) ((dats m 0 c).after 2 t) = _
  rw [after2, rounded, block0]
  funext j
  obtain ⟨e, e'⟩ := place t.val j (((cfg0.win 2).blk t).view.emb j) (emb2 t j).1 (emb2 t j).2
  show indices c (V m c main_v0) (k0_pay6 (V m c main_v1)) t.val j = indicesAll m c (((cfg0.win 2).blk t).view.emb j)
  unfold indicesAll
  rw [e, e']

/-- Every row lies in some point's block. -/
theorem point_lt (i : S32768x2.Idx) : (i 0).val / 4096 < cfg0.N := by
  have : (i 0).val < 32768 := (i 0).isLt
  have hN : cfg0.N = 8 := N_0
  omega
/-- Every row of the weights is written back by some point. -/
theorem cover1 (i : S32768x2.Idx) : ∃ t : Fin cfg0.N, (cfg0.win 1).flush t = true ∧ i ∈ ((cfg0.win 1).blk t).view.set := by
  refine ⟨⟨_, point_lt i⟩, flush0_1 _, ?_⟩
  have h := ((cfg0.win 1).blk (⟨_, point_lt i⟩ : Fin cfg0.N)).view.emb_mem_set (local_ i)
  have e := emb1 ⟨_, point_lt i⟩ (local_ i)
  rwa [show ((cfg0.win 1).blk (⟨_, point_lt i⟩ : Fin cfg0.N)).view.emb (local_ i) = i from by
    funext a; apply Fin.ext
    match a with
    | ⟨0, _⟩ => exact e.1.trans (Nat.div_add_mod _ _)
    | ⟨1, _⟩ => exact e.2] at h
/-- And every row of the indices. -/
theorem cover2 (i : S32768x2.Idx) : ∃ t : Fin cfg0.N, (cfg0.win 2).flush t = true ∧ i ∈ ((cfg0.win 2).blk t).view.set := by
  refine ⟨⟨_, point_lt i⟩, flush0_2 _, ?_⟩
  have h := ((cfg0.win 2).blk (⟨_, point_lt i⟩ : Fin cfg0.N)).view.emb_mem_set (local_ i)
  have e := emb2 ⟨_, point_lt i⟩ (local_ i)
  rwa [show ((cfg0.win 2).blk (⟨_, point_lt i⟩ : Fin cfg0.N)).view.emb (local_ i) = i from by
    funext a; apply Fin.ext
    match a with
    | ⟨0, _⟩ => exact e.1.trans (Nat.div_add_mod _ _)
    | ⟨1, _⟩ => exact e.2] at h

/-- The arrays after the last point. -/
theorem final1 (c : Dev nD) : (dats m 0 c).arrAt 1 cfg0.N = weightsAll m c :=
  (dats m 0 c).arrAt_eq_of_cover 1 (weightsAll m c) (fun t _ => flushed1 m c t) cover1
/-- The indices after the last point. -/
theorem final2 (c : Dev nD) : (dats m 0 c).arrAt 2 cfg0.N = indicesAll m c :=
  (dats m 0 c).arrAt_eq_of_cover 2 (indicesAll m c) (fun t _ => flushed2 m c t) cover2

/-- No two windows have one array. -/
theorem arr_injective : Function.Injective (Pipeline.arrRef spec0) := by decide

/-- The two lines after the grid, over any contents. -/
theorem tail3 (W : Valuation τ sig (Elt F)) : StableHlo.after (hostOps1 (F := F)) W (Proc.devRef .tc main_v3)
    = shapeCast S4x8192x2 (W (Proc.devRef .tc main_v2_0)) shapeCasts_S32768x2_S4x8192x2 := by
  after_results
  rfl
/-- The second line after the grid. -/
theorem tail4 (W : Valuation τ sig (Elt F)) : StableHlo.after (hostOps1 (F := F)) W (Proc.devRef .tc main_v4)
    = shapeCast S4x8192x2 (W (Proc.devRef .tc main_v2_1)) shapeCasts_S32768x2_S4x8192x2 := by
  after_results
  rfl
/-- And the two before it. -/
theorem head0 (W : Valuation τ sig (Elt F)) : StableHlo.after (hostOps0 (F := F)) W (Proc.devRef .tc main_v0)
    = shapeCast S32768x768 (W (Proc.devRef .tc main_arg0)) shapeCasts_S4x8192x768_S32768x768 := by
  after_results
  rfl
/-- The second line before it. -/
theorem head1 (W : Valuation τ sig (Elt F)) : StableHlo.after (hostOps0 (F := F)) W (Proc.devRef .tc main_v1)
    = transpose S768x64 [1, 0] (W (Proc.devRef .tc main_arg1)) transposes_S64x768_S768x64_1_0 := by
  after_results

/-- The results: the host's reshapes of the two arrays. -/
theorem result3 (c : Dev nD) : Pipeline.afterTail₀ cfgs (dats m) 0 (V0 m) [hostOps1] c main_v3
    = shapeCast S4x8192x2 (weightsAll m c) shapeCasts_S32768x2_S4x8192x2 := by
  rw [← final1]
  exact (tail3 _).trans (congrArg (fun x : Vec F S32768x2 .f32 => shapeCast S4x8192x2 x shapeCasts_S32768x2_S4x8192x2)
    (Pipeline.withArrays_arr spec0 arr_injective c (V0 m c) (fun w => (dats m 0 c).arrAt w cfg0.N) 1))
/-- The second result, the indices. -/
theorem result4 (c : Dev nD) : Pipeline.afterTail₀ cfgs (dats m) 0 (V0 m) [hostOps1] c main_v4
    = shapeCast S4x8192x2 (indicesAll m c) shapeCasts_S32768x2_S4x8192x2 := by
  rw [← final2]
  exact (tail4 _).trans (congrArg (fun x : Vec F S32768x2 .i32 => shapeCast S4x8192x2 x shapeCasts_S32768x2_S4x8192x2)
    (Pipeline.withArrays_arr spec0 arr_injective c (V0 m c) (fun w => (dats m 0 c).arrAt w cfg0.N) 2))

/-- The tokens and the weights as the region finds them. -/
theorem tokens_eq (c : Dev nD) : V m c main_v0 = shapeCast S32768x768 (m ((c : Thread nD τ).loc main_arg0)) shapeCasts_S4x8192x768_S32768x768 :=
  head0 _
/-- The weights as the region finds them: transposed. -/
theorem gate_eq (c : Dev nD) : V m c main_v1 = transpose S768x64 [1, 0] (m ((c : Thread nD τ).loc main_arg1)) transposes_S64x768_S768x64_1_0 :=
  head1 _

/-- The run with its results: the arguments end as they were. -/
theorem run_value : θ_run defs (onTc (τ := τ) (main (F := F))) ⟨m, fun _ => 0, ρ⟩ (fun r => ∀ c : Dev nD,
      r.2.mem ((c.tc : Thread nD τ).loc main_v3) = shapeCast S4x8192x2 (weightsAll m c) shapeCasts_S32768x2_S4x8192x2
      ∧ r.2.mem ((c.tc : Thread nD τ).loc main_v4) = shapeCast S4x8192x2 (indicesAll m c) shapeCasts_S32768x2_S4x8192x2
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).2 main_v3 (Pipeline.mem_restRefs_of main_v3 (by decide) (by decide))).trans (result3 m c),
      ((h.1 c).2 main_v4 (Pipeline.mem_restRefs_of main_v4 (by decide) (by decide))).trans (result4 m c),
      (((h.1 c).2 main_arg0 (Pipeline.mem_restRefs_of main_arg0 (by decide) (by decide))).trans
        (tail_keeps m c main_arg0 (by decide) (by decide) (by decide))).trans (V_main_arg0 m c),
      (((h.1 c).2 main_arg1 (Pipeline.mem_restRefs_of main_arg1 (by decide) (by decide))).trans
        (tail_keeps m c main_arg1 (by decide) (by decide) (by decide))).trans (V_main_arg1 m c)⟩) (run m ρ)

end Cert.KernelIdeal.Router

end
-- ==== Proof.Value.RowMath.lean ====
/- The mathematics of one token: its 64 logits as extended reals, the two greatest of them, the probabilities that the
   softmax makes of them, and the two weights.  Nothing here knows of arrays. -/
module

public import Idealize.ShloMosaic.PureOps.Ideal
public import Idealize.ShloMosaic.Lib.SortFacts

@[expose] public section

noncomputable section

namespace Cert.Router

open Idealize.ShloMosaic

/-- Expert `a` holds the greatest logit and expert `b` the next, neither shared with another expert, and the greatest
    is below infinity. -/
structure TopTwo (l : Fin 64 → EReal) (a b : Fin 64) : Prop where
  below : l a < ⊤
  ne : b ≠ a
  first : ∀ e, e ≠ a → l e < l a
  second : ∀ e, e ≠ a → e ≠ b → l e < l b

/-- A maximum taken from minus infinity over all entries is the entry that none exceeds. -/
theorem fold_max_eq (f : Fin 64 → EReal) (a : Fin 64) (h : ∀ e, f e ≤ f a) : Finset.univ.fold max ⊥ f = f a :=
  le_antisymm ((Finset.fold_max_le (f a)).2 ⟨bot_le, fun e _ => h e⟩) ((Finset.le_fold_max (f a)).2 (Or.inr ⟨a, Finset.mem_univ a, le_rfl⟩))

variable {l : Fin 64 → EReal} {a b : Fin 64}

/-- The maximum of the logits is expert `a`'s. -/
theorem TopTwo.max_eq (h : TopTwo l a b) : Finset.univ.fold max ⊥ l = l a :=
  fold_max_eq l a fun e => by
    by_cases he : e = a
    · rw [he]
    · exact (h.first e he).le

/-- A third expert exists, so that the second logit is above minus infinity. -/
theorem TopTwo.bot_lt (h : TopTwo l a b) : ⊥ < l b := by
  obtain ⟨e, he⟩ : ∃ e : Fin 64, e ∉ ({a, b} : Finset (Fin 64)) := by
    by_contra hn
    push Not at hn
    have := Finset.card_le_card (fun e _ => hn e : (Finset.univ : Finset (Fin 64)) ⊆ {a, b})
    have h2 := Finset.card_le_two (a := a) (b := b)
    simp only [Finset.card_univ, Fintype.card_fin] at this
    omega
  simp only [Finset.mem_insert, Finset.mem_singleton, not_or] at he
  exact bot_le.trans_lt (h.second e he.1 he.2)

/-- The logits with the greatest put to minus infinity. -/
def masked (l : Fin 64 → EReal) (M : EReal) : Fin 64 → EReal := fun e => if l e = M then ⊥ else l e

/-- Masking touches expert `a` alone. -/
theorem TopTwo.masked_eq (h : TopTwo l a b) (e : Fin 64) : masked l (l a) e = if e = a then ⊥ else l e := by
  unfold masked
  by_cases he : e = a
  · simp [he]
  · rw [if_neg (h.first e he).ne, if_neg he]

/-- Of the masked logits expert `b` holds the greatest, strictly. -/
theorem TopTwo.masked_lt (h : TopTwo l a b) (e : Fin 64) (he : e ≠ b) : masked l (l a) e < masked l (l a) b := by
  rw [h.masked_eq, h.masked_eq, if_neg h.ne]
  by_cases ha : e = a
  · rw [if_pos ha]; exact h.bot_lt
  · rw [if_neg ha]; exact h.second e ha he

/-- The maximum of the masked logits is expert `b`'s. -/
theorem TopTwo.masked_max (h : TopTwo l a b) : Finset.univ.fold max ⊥ (masked l (l a)) = l b := by
  rw [fold_max_eq _ b fun e => ?_, h.masked_eq, if_neg h.ne]
  by_cases he : e = b
  · rw [he]
  · exact (h.masked_lt e he).le

/-- The exponential of a logit less the greatest one, as a real number. -/
def share (l : Fin 64 → EReal) (a e : Fin 64) : ℝ := (Ideal.exp (l e - l a)).toReal

/-- The two greatest logits are reals. -/
theorem TopTwo.reals (h : TopTwo l a b) : ∃ α β : ℝ, l a = α ∧ l b = β ∧ β < α := by
  have hlt := h.first b h.ne
  have hb := h.bot_lt
  have ha := h.below
  refine ⟨(l a).toReal, (l b).toReal, (EReal.coe_toReal ha.ne (hb.trans hlt).ne').symm,
    (EReal.coe_toReal (hlt.trans ha).ne hb.ne').symm, ?_⟩
  rw [← EReal.coe_lt_coe_iff, EReal.coe_toReal ha.ne (hb.trans hlt).ne', EReal.coe_toReal (hlt.trans ha).ne hb.ne']
  exact hlt

/-- Each exponential is a real number, not negative, and it keeps the strict order of the logits. -/
theorem TopTwo.share_spec (h : TopTwo l a b) (e : Fin 64) : Ideal.exp (l e - l a) = share l a e ∧ 0 ≤ share l a e ∧
    (∀ f, l f ≠ ⊤ → l e < l f → share l a e < share l a f) := by
  obtain ⟨α, β, hα, hβ, hlt⟩ := h.reals
  have key : ∀ e : Fin 64, (l e = ⊥ ∧ share l a e = 0 ∧ Ideal.exp (l e - l a) = share l a e) ∨
      ∃ r : ℝ, l e = r ∧ share l a e = Real.exp (r - α) ∧ Ideal.exp (l e - l a) = share l a e := by
    intro e
    unfold share
    rw [hα]
    have hle : l e ≤ l a := by
      by_cases he : e = a
      · rw [he]
      · exact (h.first e he).le
    by_cases hx : l e = ⊥
    · refine Or.inl ⟨hx, ?_, ?_⟩ <;> rw [hx, EReal.bot_sub, Ideal.exp_bot] <;> simp
    · have hr := (EReal.coe_toReal (hle.trans_lt h.below).ne hx).symm
      refine Or.inr ⟨(l e).toReal, hr, ?_, ?_⟩ <;> rw [hr, ← EReal.coe_sub, Ideal.exp_coe] <;> simp
  have hn : ∀ e, 0 ≤ share l a e := fun e => by
    rcases key e with ⟨_, h0, _⟩ | ⟨r, _, h0, _⟩
    · rw [h0]
    · rw [h0]; exact (Real.exp_pos _).le
  refine ⟨(key e).elim (fun k => k.2.2) fun ⟨_, k⟩ => k.2.2, hn e, fun f _ hef => ?_⟩
  rcases key f with ⟨hf, _, _⟩ | ⟨s, hf, hsf, _⟩
  · exact absurd hef (by rw [hf]; exact not_lt_bot)
  rw [hsf]
  rcases key e with ⟨_, h0, _⟩ | ⟨r, he, h0, _⟩
  · rw [h0]; exact Real.exp_pos _
  · rw [h0]
    rw [he, hf, EReal.coe_lt_coe_iff] at hef
    exact Real.exp_lt_exp.2 (by linarith)

/-- The exponential of expert `a`, that of the greatest logit less itself, is one. -/
theorem TopTwo.share_first (h : TopTwo l a b) : share l a a = 1 := by
  obtain ⟨α, β, hα, hβ, hlt⟩ := h.reals
  unfold share
  rw [hα, ← EReal.coe_sub, Ideal.exp_coe, EReal.toReal_coe, sub_self, Real.exp_zero]

/-- The sum of the exponentials over all experts, as a real number. -/
def total (l : Fin 64 → EReal) (a : Fin 64) : ℝ := ∑ e, share l a e

/-- The sum over the experts is that real number, and it is positive. -/
theorem TopTwo.total_spec (h : TopTwo l a b) : ∑ e, Ideal.exp (l e - l a) = total l a ∧ 0 < total l a := by
  constructor
  · unfold total
    rw [Finset.sum_congr rfl fun e _ => (h.share_spec e).1]
    exact (map_sum (⟨⟨Real.toEReal, rfl⟩, fun x y => EReal.coe_add x y⟩ : ℝ →+ EReal) _ _).symm
  · refine Finset.sum_pos' (fun e _ => (h.share_spec e).2.1) ⟨a, Finset.mem_univ a, ?_⟩
    rw [h.share_first]; exact one_pos

/-- The softmax's probability of expert `e`. -/
def prob (l : Fin 64 → EReal) (a e : Fin 64) : EReal := Ideal.div (Ideal.exp (l e - l a)) (∑ e, Ideal.exp (l e - l a))

/-- It is the quotient of two reals. -/
theorem TopTwo.prob_eq (h : TopTwo l a b) (e : Fin 64) : prob l a e = ((share l a e / total l a : ℝ) : EReal) := by
  unfold prob
  rw [h.total_spec.1, (h.share_spec e).1, Ideal.div_coe h.total_spec.2.ne', ← EReal.coe_mul, mul_one_div]

/-- The two greatest probabilities are those of the two greatest logits. -/
theorem TopTwo.prob_first (h : TopTwo l a b) (e : Fin 64) (he : e ≠ a) : prob l a e < prob l a a := by
  rw [h.prob_eq, h.prob_eq, EReal.coe_lt_coe_iff]
  exact div_lt_div_of_pos_right ((h.share_spec e).2.2 a h.below.ne (h.first e he)) h.total_spec.2

/-- Every expert but the two has a smaller probability than expert `b`. -/
theorem TopTwo.prob_second (h : TopTwo l a b) (e : Fin 64) (he : e ≠ a) (he' : e ≠ b) : prob l a e < prob l a b := by
  rw [h.prob_eq, h.prob_eq, EReal.coe_lt_coe_iff]
  exact div_lt_div_of_pos_right ((h.share_spec e).2.2 b ((h.first b h.ne).trans h.below).ne (h.second e he he')) h.total_spec.2

/-- The first weight: one over one plus the exponential of the logits' difference. -/
def weight1 (l : Fin 64 → EReal) (a b : Fin 64) : EReal := Ideal.div 1 (1 + Ideal.exp (l b - l a))

/-- The second weight: that exponential times the first weight. -/
def weight2 (l : Fin 64 → EReal) (a b : Fin 64) : EReal := Ideal.exp (l b - l a) * weight1 l a b

/-- The first weight is the first probability over the sum of the two. -/
theorem TopTwo.weight1_eq (h : TopTwo l a b) : Ideal.div (prob l a a) (prob l a a + prob l a b) = weight1 l a b := by
  have hs := h.total_spec.2
  have hb := (h.share_spec b).2.1
  have h1 : (1 : ℝ) + share l a b ≠ 0 := by positivity
  have h2 : share l a a / total l a + share l a b / total l a ≠ 0 := by
    rw [h.share_first, ← add_div]; exact div_ne_zero h1 hs.ne'
  unfold weight1
  rw [h.prob_eq, h.prob_eq, (h.share_spec b).1, ← EReal.coe_add, Ideal.div_coe h2, ← EReal.coe_one, ← EReal.coe_add,
    Ideal.div_coe h1, ← EReal.coe_mul, ← EReal.coe_mul, h.share_first]
  congr 1
  field_simp

/-- The second weight is the second probability over the sum of the two. -/
theorem TopTwo.weight2_eq (h : TopTwo l a b) : Ideal.div (prob l a b) (prob l a a + prob l a b) = weight2 l a b := by
  have hs := h.total_spec.2
  have hb := (h.share_spec b).2.1
  have h1 : (1 : ℝ) + share l a b ≠ 0 := by positivity
  have h2 : share l a a / total l a + share l a b / total l a ≠ 0 := by
    rw [h.share_first, ← add_div]; exact div_ne_zero h1 hs.ne'
  unfold weight2 weight1
  rw [h.prob_eq, h.prob_eq, (h.share_spec b).1, ← EReal.coe_add, Ideal.div_coe h2, ← EReal.coe_one, ← EReal.coe_add,
    Ideal.div_coe h1, ← EReal.coe_mul, ← EReal.coe_mul, ← EReal.coe_mul, h.share_first]
  congr 1
  field_simp

/-- A descending sort puts the position of the greatest entry first and that of the next second, whatever the others
    do among themselves. -/
theorem sortedFrom_two (f : Fin 64 → EReal) (a b : Fin 64) (hne : b ≠ a) (hfirst : ∀ e, e ≠ a → f e < f a)
    (hsecond : ∀ e, e ≠ a → e ≠ b → f e < f b) :
    sortedFrom (fun k k' => decide (f k' < f k)) 0 = a ∧ sortedFrom (fun k k' => decide (f k' < f k)) 1 = b := by
  have hsort : ∀ i j : Fin 64, i < j → f (sortedFrom (fun k k' => decide (f k' < f k)) j) ≤ f (sortedFrom (fun k k' => decide (f k' < f k)) i) := by
    intro i j hij
    have := sortedFrom_noInversion (fun k k' => decide (f k' < f k)) (fun k k' => decide (f k' < f k))
      (fun x y hxy => decide_eq_false (not_lt.2 (of_decide_eq_true hxy).le)) (fun _ _ hxy => hxy)
      (fun x y z hxy hyz => decide_eq_false (not_lt.2 ((not_lt.1 (of_decide_eq_false hxy)).trans (not_lt.1 (of_decide_eq_false hyz)))))
      i j hij
    exact not_lt.1 (of_decide_eq_false this)
  set σ := sortedFrom (fun k k' => decide (f k' < f k)) with hσ
  have hinj : Function.Injective σ := sortedFrom_injective _
  obtain ⟨i, hi⟩ := sortedFrom_surjective (fun k k' => decide (f k' < f k)) a
  obtain ⟨j, hj⟩ := sortedFrom_surjective (fun k k' => decide (f k' < f k)) b
  rw [← hσ] at hi hj
  have h0 : σ 0 = a := by
    by_contra hn
    have hi0 : i ≠ 0 := fun e => hn (e ▸ hi)
    have := hsort 0 i (Fin.pos_iff_ne_zero.2 hi0)
    rw [hi] at this
    exact absurd (hfirst _ hn) (not_lt.2 this)
  refine ⟨h0, ?_⟩
  by_contra hn
  have hj0 : j ≠ 0 := fun e => hne (by rw [← hj, e, h0])
  have hj1 : j ≠ 1 := fun e => hn (e ▸ hj)
  have hlt : (1 : Fin 64) < j := by
    have h1 : j.val ≠ 0 := fun e => hj0 (Fin.ext e)
    have h2 : j.val ≠ 1 := fun e => hj1 (Fin.ext e)
    rw [Fin.lt_def]
    show 1 < j.val
    omega
  have := hsort 1 j hlt
  rw [hj] at this
  refine absurd (hsecond _ (fun e => ?_) hn) (not_lt.2 this)
  exact absurd (hinj (e.trans h0.symm)) (by decide)

end Cert.Router

end
-- ==== Proof.Value.Chunk.lean ====
/- What the kernel's arithmetic of one chunk of 512 tokens says of each of its tokens, over the extended reals. -/
module

public import proofs.«01_k».proof.Proof.Value.RowMath
public import proofs.«01_k».proof.Proof.KernelIdeal.Launch
public import Idealize.ShloMosaic.Lib.Pointwise
public import Idealize.ShloMosaic.Lib.IdealHost

@[expose] public section

noncomputable section

namespace Cert.KernelIdeal.Router

open Cert.KernelIdeal Cert.KernelIdeal.Gen Cert.Router Idealize.ShloMosaic

variable (u : FVec Ideal S768x64 .bf16) (v : Vec Ideal S1x512x768 .f32)

/-- The logits of the chunk's token `r`. -/
def rowLogits (r : Fin 512) (e : Fin 64) : EReal := ∑ k : Fin 768, v (ix3 0 r k) * u (ix2 k e)

/-- The product's entry. -/
theorem logits_apply (r : Fin 512) (e : Fin 64) : k0_pay24 u v (ix2 r e) = rowLogits u v r e := by
  unfold k0_pay24 rowLogits
  pointwise

/-- The bits of minus infinity. -/
theorem ofBits_neg_inf : Ideal.ofBits .f32 0xFF800000#32 = ⊥ := by simp [Ideal.ofBits, Ideal.ieee]

/-- The token's greatest logit. -/
theorem max_apply (r : Fin 512) (c : Fin 1) : k0_pay25 u v (ix2 r c) = Finset.univ.fold max ⊥ (rowLogits u v r) := by
  unfold k0_pay25
  pointwise
  rw [ofBits_neg_inf]
  exact congrArg (fun f => Finset.univ.fold max ⊥ f) (funext fun e => logits_apply u v r e)

/-- The token's logits with the greatest masked. -/
theorem masked_apply (r : Fin 512) (e : Fin 64) : k0_pay27 u v (ix2 r e) = masked (rowLogits u v r) (Finset.univ.fold max ⊥ (rowLogits u v r)) e := by
  unfold k0_pay27
  pointwise
  rw [ofBits_neg_inf, logits_apply]
  simp only [masked]
  rw [show k0_pay25 u v (ix2 r 0) = _ from max_apply u v r 0]

/-- The position of the greatest entry of a row, where one entry exceeds the others. -/
theorem reduceIndex_apply (x : S512x64.Idx → EReal) (h : S512x64.Reduces [1] S512) (r : Fin 512) (a : Fin 64)
    (ha : ∀ e, e ≠ a → x (ix2 r e) < x (ix2 r a)) : Ideal.reduceIndex .argMax 1 h x (ix1 r) = BitVec.ofNat 32 a.val := by
  have hf : ∀ i : S512x64.Idx, h.drop i = ix1 r ↔ ∃ k : Fin 64, ix2 r k = i := fun i => h.fiber_r2_a1 (ix1 r) i
  have he : (Finset.univ.filter (fun i : S512x64.Idx => h.drop i = ix1 r)).filter (fun i =>
      ∀ i' ∈ Finset.univ.filter (fun i : S512x64.Idx => h.drop i = ix1 r), ¬ x i < x i') = {ix2 r a} := by
    ext i
    simp only [Finset.mem_filter, Finset.mem_univ, true_and, Finset.mem_singleton, hf]
    constructor
    · rintro ⟨⟨k, rfl⟩, hk⟩
      by_contra hn
      exact hk _ ⟨a, rfl⟩ (ha k fun e => hn (by rw [e]))
    · rintro rfl
      refine ⟨⟨a, rfl⟩, ?_⟩
      rintro _ ⟨k, rfl⟩
      by_cases hk : k = a
      · rw [hk]; exact lt_irrefl _
      · exact not_lt.2 (ha k hk).le
  unfold Ideal.reduceIndex
  simp only [if_true]
  rw [he]
  simp
  rfl

variable {u v} {r : Fin 512} {a b : Fin 64}

/-- The first index is that of the greatest logit. -/
theorem index1_apply (h : TopTwo (rowLogits u v r) a b) (c : Fin 1) : k0_pay26 u v (ix2 r c) = BitVec.ofNat 32 a.val := by
  unfold k0_pay26
  pointwise
  exact reduceIndex_apply _ _ r a fun e he => by
    rw [logits_apply, logits_apply]; exact h.first e he

/-- The second index is that of the next logit. -/
theorem index2_apply (h : TopTwo (rowLogits u v r) a b) (c : Fin 1) : k0_pay28 u v (ix2 r c) = BitVec.ofNat 32 b.val := by
  unfold k0_pay28
  pointwise
  exact reduceIndex_apply _ _ r b fun e he => by
    rw [masked_apply, masked_apply, h.max_eq]; exact h.masked_lt e he

/-- The exponential of the second logit less the first. -/
theorem exp_apply (h : TopTwo (rowLogits u v r) a b) (c : Fin 1) :
    k0_pay29 u v (ix2 r c) = Ideal.exp (rowLogits u v r b - rowLogits u v r a) := by
  unfold k0_pay29
  pointwise
  rw [ofBits_neg_inf, max_apply, h.max_eq]
  refine congrArg (fun t => Ideal.exp (t - rowLogits u v r a)) ?_
  rw [← h.masked_max]
  refine congrArg (fun f => Finset.univ.fold max ⊥ f) (funext fun e => ?_)
  rw [← h.max_eq]
  exact masked_apply u v r e

/-- The first weight stored. -/
theorem weight1_apply (h : TopTwo (rowLogits u v r) a b) (c : Fin 1) : k0_pay30 u v (ix2 r c) = weight1 (rowLogits u v r) a b := by
  unfold k0_pay30 weight1
  pointwise
  rw [exp_apply h]

/-- The second weight stored. -/
theorem weight2_apply (h : TopTwo (rowLogits u v r) a b) (c : Fin 1) : k0_pay31 u v (ix2 r c) = weight2 (rowLogits u v r) a b := by
  unfold k0_pay31 weight2
  pointwise
  rw [exp_apply h, weight1_apply h]

end Cert.KernelIdeal.Router

end
-- ==== Proof.Value.Ties.lean ====
/- What the precondition says of a token: its logits have one largest and one second largest. -/
module

public import proofs.«01_k».proof.Proof.Value.Chunk
public import proofs.«01_k».proof.Pre_no_tie
public import proofs.«01_k».proof.Proof.Gen.Pre_no_tie
public import Idealize.ShloMosaic.Lib.IndicatorCount

@[expose] public section

noncomputable section

namespace Cert.Router

open Idealize.ShloMosaic

/-- Every entry is at most the maximum. -/
theorem le_max (l : Fin 64 → EReal) (e : Fin 64) : l e ≤ Finset.univ.fold max ⊥ l :=
  (Finset.le_fold_max _).2 (.inr ⟨e, Finset.mem_univ e, le_refl _⟩)

/-- A vector whose maximum occurs once, and whose maximum once that one is masked also occurs once, has a top and a second. -/
theorem topTwo_of_unique (l l' : Fin 64 → EReal) (hin : ∀ e, l e = Finset.univ.fold max ⊥ l → l' e = ⊥)
    (hout : ∀ e, l e ≠ Finset.univ.fold max ⊥ l → l' e = l e) (h1 : ∃ a, ∀ e, l e = Finset.univ.fold max ⊥ l ↔ e = a)
    (h2 : ∃ b, ∀ e, l' e = Finset.univ.fold max ⊥ l' ↔ e = b) (htop : Finset.univ.fold max ⊥ l < ⊤) : ∃ a b, TopTwo l a b := by
  obtain ⟨a, iffa⟩ := h1
  obtain ⟨b, iffb⟩ := h2
  have hM := le_max l
  have hS := le_max l'
  generalize Finset.univ.fold max ⊥ l = M at *
  generalize Finset.univ.fold max ⊥ l' = S at *
  have away : ∀ e, e ≠ a → l' e = l e := fun e he => hout e (mt (iffa e).1 he)
  have hne : b ≠ a := by
    rintro rfl
    have hS' : S = ⊥ := ((iffb b).2 rfl).symm.trans (hin b ((iffa b).2 rfl))
    have all : ∀ e, e = b := fun e => (iffb e).1 (le_antisymm (hS e) (hS' ▸ bot_le))
    exact absurd ((all 0).trans (all 1).symm) (by decide)
  refine ⟨a, b, ⟨?_, hne, fun e he => ?_, fun e he he' => ?_⟩⟩
  · rw [(iffa a).2 rfl]; exact htop
  · rw [(iffa a).2 rfl]; exact lt_of_le_of_ne (hM e) (mt (iffa e).1 he)
  · rw [← away e he, ← away b hne, (iffb b).2 rfl]; exact lt_of_le_of_ne (hS e) (mt (iffb e).1 he')

/-- A count of 64 flags that reads one: one entry alone has the property. -/
theorem count_one (p : Fin 64 → Prop) [DecidablePred p]
    (h : Finset.univ.fold IntOp.addi (0#32) (fun e => BitVec.setWidth 32 (BitVec.ofBool (decide (p e)))) = 1#32) :
    ∃ a, ∀ e, p e ↔ e = a := by
  rw [IndicatorCount.fold_addi_setWidth_eq_card (fun e => BitVec.ofBool (decide (p e)))] at h
  have e : (Finset.univ.filter fun e => BitVec.ofBool (decide (p e)) = 1#1) = Finset.univ.filter p :=
    Finset.filter_congr fun e _ => by by_cases hp : p e <;> simp [hp]
  rw [e] at h
  have hle : (Finset.univ.filter p).card ≤ 64 := (Finset.card_le_univ _).trans (le_of_eq (Fintype.card_fin 64))
  have hn := congrArg BitVec.toNat h
  simp only [BitVec.toNat_ofNat] at hn
  obtain ⟨a, ha⟩ := Finset.card_eq_one.1 (show (Finset.univ.filter p).card = 1 by omega)
  exact ⟨a, fun e => by simpa using Finset.ext_iff.1 ha e⟩

/-- A conjunction of flags that reads one. -/
theorem andi_one {p q : BitVec 1} (h : IntOp.andi p q = 1#1) : p = 1#1 ∧ q = 1#1 := by
  revert h; revert p q; decide
/-- An equality of words that reads one. -/
theorem eq_of_cmpi {w : ℕ} {x y : BitVec w} (h : IntOp.cmpi .eq x y = 1#1) : x = y := by
  have h' : BitVec.ofBool (x == y) = 1#1 := h
  by_contra hne
  rw [beq_false_of_ne hne] at h'
  exact absurd h' (by decide)
/-- A flag that reads one. -/
theorem of_flag {p : Prop} [Decidable p] (h : BitVec.ofBool (decide p) = 1#1) : p := by
  by_contra hp
  rw [decide_eq_false hp] at h
  exact absurd h (by decide)

/-- The literal of plus infinity. -/
theorem ofBits_inf : Ideal.ofBits .f32 0x7F800000#32 = ⊤ := by simp [Ideal.ofBits, Ideal.ieee]

end Cert.Router

namespace Cert.Pre_no_tie

open Cert.Router Idealize.ShloMosaic Facts

/-- A token's logits over the 64 experts. -/
def logits (x : FVec Ideal S4x8192x768 .f32) (W : FVec Ideal S64x768 .f32) (b : Fin 4) (l : Fin 8192) (e : Fin 64) : EReal :=
  ∑ k : Fin 768, x (ix3 b l k) * W (ix2 e k)

/-- The host's product is the logits. -/
theorem dot_apply (x : FVec Ideal S4x8192x768 .f32) (W : FVec Ideal S64x768 .f32) (b : Fin 4) (l : Fin 8192) (e : Fin 64) :
    Host.dotGeneral dot_S4x8192x768_S64x768_S4x8192x64_2_1_01_0_n_n none x W (ix3 b l e) = logits x W b l e := by
  pointwise
  rfl

/-- The host's maximum along the experts. -/
theorem max_apply (L : FVec Ideal S4x8192x64 .f32) (b : Fin 4) (l : Fin 8192) :
    Host.reduce FloatOps.maximumf L (constant S_ .f32 0xFF800000#32) reducesTo_S4x8192x64_S4x8192_d2 h_S_ (ix2 b l)
      = Finset.univ.fold max ⊥ (fun e => L (ix3 b l e)) := by
  have h : ∀ v : FVec Ideal S_ .f32, Host.reduce FloatOps.maximumf L v reducesTo_S4x8192x64_S4x8192_d2 h_S_ (ix2 b l)
      = Finset.univ.fold max (v (Shape.Idx.first h_S_)) (fun e => L (ix3 b l e)) := by intro v; pointwise
  exact (h _).trans (congrArg (fun z => Finset.univ.fold max z (fun e => L (ix3 b l e))) KernelIdeal.Router.ofBits_neg_inf)

/-- The host's count along the experts. -/
theorem count_apply (p : IVec S4x8192x64 1) (b : Fin 4) (l : Fin 8192) :
    Host.reduce IntOp.addi (extui 32 p natLt_1_32) (constantI S_ 32 0#32) reducesTo_S4x8192x64_S4x8192_d2 h_S_ (ix2 b l)
      = Finset.univ.fold IntOp.addi (0#32) (fun e => BitVec.setWidth 32 (p (ix3 b l e))) := by
  have h : ∀ (q : IVec S4x8192x64 32) (v : IVec S_ 32), Host.reduce IntOp.addi q v reducesTo_S4x8192x64_S4x8192_d2 h_S_ (ix2 b l)
      = Finset.univ.fold IntOp.addi (v (Shape.Idx.first h_S_)) (fun e => q (ix3 b l e)) := by intro q v; pointwise
  exact h _ _

/-- The precondition gives every token its top and second expert. -/
theorem topTwo (x : FVec Ideal S4x8192x768 .f32) (W : FVec Ideal S64x768 .f32) (h : fn x W = fun _ => 1#1) (b : Fin 4) (l : Fin 8192) :
    ∃ a a', TopTwo (logits x W b l) a a' := by
  have e := congrFun h (ix3 b l 0)
  simp only [fn, fn_part1, fn_where, id_eq] at e
  have hL := dot_apply x W b l
  generalize Host.dotGeneral dot_S4x8192x768_S64x768_S4x8192x64_2_1_01_0_n_n none x W = L at e hL
  have hM := max_apply L b l
  generalize Host.reduce FloatOps.maximumf L (constant S_ .f32 0xFF800000#32) reducesTo_S4x8192x64_S4x8192_d2 h_S_ = M at e hM
  generalize hK : select (cmpf .oeq L (broadcastInDim S4x8192x64 ![0, 1, 2] bcast_S4x8192x1_S4x8192x64_0_1_2
    (broadcastInDim S4x8192x1 ![0, 1] bcast_S4x8192_S4x8192x1_0_1 M)))
    (broadcastInDim S4x8192x64 ![] bcast_S_S4x8192x64 (constant S_ .f32 0xFF800000#32)) L = K at e
  have hS := max_apply K b l
  generalize Host.reduce FloatOps.maximumf K (constant S_ .f32 0xFF800000#32) reducesTo_S4x8192x64_S4x8192_d2 h_S_ = S at e hS
  have hK' : ∀ k, K (ix3 b l k) = if L (ix3 b l k) = M (ix2 b l) then Ideal.ofBits .f32 0xFF800000#32 else L (ix3 b l k) := by
    intro k
    rw [← hK]
    pointwise
  have hP : ∀ (N : FVec Ideal S4x8192x64 .f32) (R : FVec Ideal S4x8192 .f32) (k : Fin 64),
      cmpf .oeq N (broadcastInDim S4x8192x64 ![0, 1, 2] bcast_S4x8192x1_S4x8192x64_0_1_2
        (broadcastInDim S4x8192x1 ![0, 1] bcast_S4x8192_S4x8192x1_0_1 R)) (ix3 b l k)
      = BitVec.ofBool (decide (N (ix3 b l k) = R (ix2 b l))) := by
    intro N R k
    pointwise
  generalize hp : cmpf .oeq L (broadcastInDim S4x8192x64 ![0, 1, 2] bcast_S4x8192x1_S4x8192x64_0_1_2
    (broadcastInDim S4x8192x1 ![0, 1] bcast_S4x8192_S4x8192x1_0_1 M)) = p at e
  generalize hq : cmpf .oeq K (broadcastInDim S4x8192x64 ![0, 1, 2] bcast_S4x8192x1_S4x8192x64_0_1_2
    (broadcastInDim S4x8192x1 ![0, 1] bcast_S4x8192_S4x8192x1_0_1 S)) = q at e
  have hp' := count_apply p b l
  have hq' := count_apply q b l
  simp only [← hp, hP] at hp'
  simp only [← hq, hP] at hq'
  rw [hp] at hp'
  rw [hq] at hq'
  generalize Host.reduce IntOp.addi (extui 32 p natLt_1_32) (constantI S_ 32 0#32) reducesTo_S4x8192x64_S4x8192_d2 h_S_ = C at e hp'
  generalize Host.reduce IntOp.addi (extui 32 q natLt_1_32) (constantI S_ 32 0#32) reducesTo_S4x8192x64_S4x8192_d2 h_S_ = D at e hq'
  have hT : ∀ (X : IVec S4x8192 32), cmpi .eq (broadcastInDim S4x8192x1 ![0, 1] bcast_S4x8192_S4x8192x1_0_1 X)
      (broadcastInDim S4x8192x1 ![] bcast_S_S4x8192x1 (constantI S_ 32 1#32)) (ix3 b l 0) = IntOp.cmpi .eq (X (ix2 b l)) 1#32 := by
    intro X
    pointwise
  have hU : ∀ A B : FVec Ideal S4x8192x1 .f32, cmpf .olt A B (ix3 b l 0) = BitVec.ofBool (decide (A (ix3 b l 0) < B (ix3 b l 0))) :=
    fun _ _ => rfl
  have hV : broadcastInDim S4x8192x1 ![0, 1] bcast_S4x8192_S4x8192x1_0_1 M (ix3 b l 0) = M (ix2 b l) := by pointwise
  have hW : broadcastInDim S4x8192x1 ![] bcast_S_S4x8192x1 (constant (F := Ideal) S_ .f32 0x7F800000#32) (ix3 b l 0) = ⊤ := ofBits_inf
  obtain ⟨e12, e3⟩ := andi_one e
  obtain ⟨e1, e2⟩ := andi_one e12
  have c1 := count_one _ (hp'.symm.trans (eq_of_cmpi ((hT C).symm.trans e1)))
  have c2 := count_one _ (hq'.symm.trans (eq_of_cmpi ((hT D).symm.trans e2)))
  have c3 := of_flag ((hU _ _).symm.trans e3)
  rw [hV, hW] at c3
  simp only [hL] at hM hK' c1
  rw [hM] at hK' c1 c3
  rw [hS] at c2
  exact topTwo_of_unique (logits x W b l) (fun k => K (ix3 b l k))
    (fun k hk => by rw [hK', if_pos hk, KernelIdeal.Router.ofBits_neg_inf]) (fun k hk => by rw [hK', if_neg hk]) c1 c2 c3

end Cert.Pre_no_tie

end
-- ==== Proof.Value.Token.lean ====
/- A token's result in the kernel's arrays: which point and chunk computes it, what that chunk's logits are, and so what the
   reshaped arrays hold. -/
module

public import proofs.«01_k».proof.Proof.Value.Arrays
public import proofs.«01_k».proof.Proof.Value.Ties

@[expose] public section

noncomputable section

namespace Cert.KernelIdeal.Router

open Cert.KernelIdeal Cert.KernelIdeal.Gen Cert.Router Idealize.ShloMosaic Idealize.ShloMosaic.TcCoe Idealize.SL.Sem
open Cert.Pre_no_tie (logits)

variable (m : (ℓ : Loc nD τ sig) → Buf (Elt Ideal) ℓ) (c : Dev nD)

/-- The weights' block converted and transposed. -/
theorem gate_apply (e : Fin 64) (k : Fin 768) :
    k0_pay6 (V m c main_v1) (ix2 k e) = (m ((c : Thread nD τ).loc main_arg1) : FVec Ideal S64x768 .f32) (ix2 e k) := by
  rw [gate_eq]
  unfold k0_pay6
  pointwise

/-- A row of the flattened tokens. -/
theorem tokens_apply (b : Fin 4) (l : Fin 8192) (k : Fin 768) (R : Fin 32768) (hR : R.val = 8192 * b.val + l.val) :
    (V m c main_v0 : FVec Ideal S32768x768 .f32) (ix2 R k) = (m ((c : Thread nD τ).loc main_arg0) : FVec Ideal S4x8192x768 .f32) (ix3 b l k) := by
  have back : ∀ Y : S32768x768.Idx → EReal,
      shapeCast S4x8192x768 Y (Eq.symm shapeCasts_S4x8192x768_S32768x768) (ix3 b l k) = Y (ix2 R k) := by
    intro Y
    pointwise
    exact congrArg (fun z : Fin 32768 => Y (ix2 z k)) (Fin.ext (show b.val * 8192 + l.val = R.val by omega))
  rw [tokens_eq]
  refine (back _).symm.trans ?_
  exact congrFun ((shapeCast_comp _ _ _).trans (shapeCast_id _ _)) (ix3 b l k)

/-- A row of the chunk read at point `t`. -/
theorem tok_apply (X : Buf (Elt Ideal) ((c : Thread nD τ).loc main_v0)) (g : Fin 64) (r : Fin 512) (k : Fin 768) (R : Fin 32768) (hR : R.val = 512 * g.val + r.val) :
    tok c X g (ix3 0 r k) = (X : FVec Ideal S32768x768 .f32) (ix2 R k) := by
  unfold tok
  pointwise
  show X ((blkM g).view.emb (ix2 r k)) = X (ix2 R k)
  congr 1
  funext a; apply Fin.ext
  match a with
  | ⟨0, _⟩ => show 512 * g.val + 1 * r.val = R.val; omega
  | ⟨1, _⟩ => show 0 + 1 * k.val = k.val; omega

/-- Token `(b, l)` of the result is row `8192 b + l` of the array. -/
theorem reshape_apply {α : Type} (A : S32768x2.Idx → α) (b : Fin 4) (l : Fin 8192) (j : Fin 2) (R : Fin 32768) (hR : R.val = 8192 * b.val + l.val) :
    shapeCast S4x8192x2 A shapeCasts_S32768x2_S4x8192x2 (ix3 b l j) = A (ix2 R j) := by
  pointwise
  exact congrArg (fun z : Fin 32768 => A (ix2 z j)) (Fin.ext (show b.val * 8192 + l.val = R.val by omega))

/-- The point, the chunk of the point and the row of the chunk that compute row `R`. -/
abbrev pointOf (R : Fin 32768) : ℕ := R.val / 4096
/-- The chunk of that point. -/
abbrev chunkOf (R : Fin 32768) : Fin 8 := ⟨R.val % 4096 / 512, by omega⟩
/-- The row of that chunk. -/
abbrev rowOf (R : Fin 32768) : Fin 512 := ⟨R.val % 4096 % 512, by omega⟩

/-- The logits that the kernel computes for a token are the token's. -/
theorem logits_eq (b : Fin 4) (l : Fin 8192) (R : Fin 32768) (hR : R.val = 8192 * b.val + l.val) :
    rowLogits (k0_pay6 (V m c main_v1)) (tok c (V m c main_v0) (blkOf (pointOf R) (chunkOf R))) (rowOf R)
      = logits (m ((c : Thread nD τ).loc main_arg0)) (m ((c : Thread nD τ).loc main_arg1)) b l := by
  funext e
  have hg : R.val = 512 * (blkOf (pointOf R) (chunkOf R)).val + (rowOf R).val := by
    show R.val = 512 * ((8 * (R.val / 4096) + R.val % 4096 / 512) % 64) + R.val % 4096 % 512
    omega
  unfold rowLogits logits
  refine Finset.sum_congr rfl fun k _ => ?_
  rw [gate_apply, tok_apply c (V m c main_v0) _ _ k R hg, tokens_apply m c b l k R hR]

/-- A column of a point's block at a row. -/
theorem cols_apply {α : Type} (p q : Fin 8 → S512x1.Idx → α) (R : Fin 32768) (j : Fin 2) :
    cols p q (local_ (ix2 R j)) = (if j.val = 0 then p else q) (chunkOf R) (ix2 (rowOf R) 0) := by
  have hr : rowIdx (R.val % 4096) = ix2 (n0 := 512) (n1 := 1) (rowOf R) 0 := by
    funext a
    match a with
    | ⟨0, _⟩ => rfl
    | ⟨1, _⟩ => rfl
  rw [← hr]
  rfl

variable {b : Fin 4} {l : Fin 8192} {a a' : Fin 64}

/-- What the kernel's results hold for a token with a top and a second expert. -/
theorem kernel_apply (h : TopTwo (logits (m ((c : Thread nD τ).loc main_arg0)) (m ((c : Thread nD τ).loc main_arg1)) b l) a a') :
    (shapeCast S4x8192x2 (weightsAll m c) shapeCasts_S32768x2_S4x8192x2 (ix3 b l 0)
        = weight1 (logits (m ((c : Thread nD τ).loc main_arg0)) (m ((c : Thread nD τ).loc main_arg1)) b l) a a'
      ∧ shapeCast S4x8192x2 (weightsAll m c) shapeCasts_S32768x2_S4x8192x2 (ix3 b l 1)
        = weight2 (logits (m ((c : Thread nD τ).loc main_arg0)) (m ((c : Thread nD τ).loc main_arg1)) b l) a a')
    ∧ shapeCast S4x8192x2 (indicesAll m c) shapeCasts_S32768x2_S4x8192x2 (ix3 b l 0) = BitVec.ofNat 32 a.val
      ∧ shapeCast S4x8192x2 (indicesAll m c) shapeCasts_S32768x2_S4x8192x2 (ix3 b l 1) = BitVec.ofNat 32 a'.val := by
  obtain ⟨R, hR⟩ : ∃ R : Fin 32768, R.val = 8192 * b.val + l.val := ⟨⟨8192 * b.val + l.val, by omega⟩, rfl⟩
  have hl := logits_eq m c b l R hR
  rw [← hl] at h ⊢
  refine ⟨⟨?_, ?_⟩, ?_, ?_⟩ <;> rw [reshape_apply _ b l _ R hR]
  · exact (cols_apply (weightA c (V m c main_v0) (k0_pay6 (V m c main_v1)) (pointOf R)) (weightB c (V m c main_v0) (k0_pay6 (V m c main_v1)) (pointOf R)) R 0).trans
      (weight1_apply h 0)
  · exact (cols_apply (weightA c (V m c main_v0) (k0_pay6 (V m c main_v1)) (pointOf R)) (weightB c (V m c main_v0) (k0_pay6 (V m c main_v1)) (pointOf R)) R 1).trans
      (weight2_apply h 0)
  · exact (cols_apply (indexA c (V m c main_v0) (k0_pay6 (V m c main_v1)) (pointOf R)) (indexB c (V m c main_v0) (k0_pay6 (V m c main_v1)) (pointOf R)) R 0).trans
      (index1_apply h 0)
  · exact (cols_apply (indexA c (V m c main_v0) (k0_pay6 (V m c main_v1)) (pointOf R)) (indexB c (V m c main_v0) (k0_pay6 (V m c main_v1)) (pointOf R)) R 1).trans
      (index2_apply h 0)

end Cert.KernelIdeal.Router

end
-- ==== Proof.Value.Reference.lean ====
/- What the reference computes for a token, read from its program: the probabilities, the stable choice of the two largest,
   and the two weights. -/
module

public import proofs.«01_k».proof.Proof.Value.Ties
public import proofs.«01_k».proof.Proof.Gen.ReferenceIdeal.Run

@[expose] public section

noncomputable section

namespace Cert.ReferenceIdeal.Router

open Cert.ReferenceIdeal Cert.ReferenceIdeal.Gen Cert.Router Idealize.ShloMosaic Idealize.ShloMosaic.TcCoe Idealize.SL.Sem

open Cert.Pre_no_tie (logits)

variable (x : FVec Ideal S4x8192x768 .f32) (W : FVec Ideal S64x768 .f32)

/-- The reference's operations up to the exponentials, and up to the probabilities. -/
def exps : FVec Ideal S4x8192x64 .f32 :=
  Host.exp (subf (Host.dotGeneral dot_S4x8192x768_S64x768_S4x8192x64_2_1_01_0_n_n none x W)
    (broadcastInDim S4x8192x64 ![0, 1, 2] bcast_S4x8192x1_S4x8192x64_0_1_2 (broadcastInDim S4x8192x1 ![0, 1] bcast_S4x8192_S4x8192x1_0_1
      (maximumf (broadcastInDim S4x8192 ![] bcast_S_S4x8192 (constant S_ .f32 0xFF800000#32))
        (Host.reduce FloatOps.maximumf (Host.dotGeneral dot_S4x8192x768_S64x768_S4x8192x64_2_1_01_0_n_n none x W)
          (constant S_ .f32 0xFF800000#32) reducesTo_S4x8192x64_S4x8192_d2 h_S_)))))
/-- The reference's operations up to the probabilities. -/
def probs : FVec Ideal S4x8192x64 .f32 :=
  Host.divf (exps x W) (broadcastInDim S4x8192x64 ![0, 1, 2] bcast_S4x8192x1_S4x8192x64_0_1_2
    (broadcastInDim S4x8192x1 ![0, 1] bcast_S4x8192_S4x8192x1_0_1
      (Host.reduceAdd (exps x W) (constant S_ .f32 0x00000000#32) reducesTo_S4x8192x64_S4x8192_d2 h_S_)))
/-- The two largest of any array along its last axis, and their positions. -/
def top (P : FVec Ideal S4x8192x64 .f32) : FVec Ideal S4x8192x2 .f32 × IVec S4x8192x2 32 :=
  Host.topK S4x8192x2 2 (FloatOps.cmpfTotal .gt) P sliceFits_S4x8192x64_S4x8192x2
/-- Two values over their sum. -/
def shares (v : FVec Ideal S4x8192x2 .f32) : FVec Ideal S4x8192x2 .f32 :=
  Host.divf v (broadcastInDim S4x8192x2 ![0, 1, 2] bcast_S4x8192x1_S4x8192x2_0_1_2
    (broadcastInDim S4x8192x1 ![0, 1] bcast_S4x8192_S4x8192x1_0_1
      (Host.reduceAdd v (constant S_ .f32 0x00000000#32) reducesTo_S4x8192x2_S4x8192_d2 h_S_)))

variable {x W} {b : Fin 4} {l : Fin 8192} {a a' : Fin 64}

/-- A row of values repeated over the experts, and over the two choices. -/
theorem spread_apply (v : FVec Ideal S4x8192 .f32) (e : Fin 64) : broadcastInDim S4x8192x64 ![0, 1, 2] bcast_S4x8192x1_S4x8192x64_0_1_2
    (broadcastInDim S4x8192x1 ![0, 1] bcast_S4x8192_S4x8192x1_0_1 v) (ix3 b l e) = v (ix2 b l) := by
  pointwise
/-- A row of values repeated over the two choices. -/
theorem spread2_apply (v : FVec Ideal S4x8192 .f32) (j : Fin 2) : broadcastInDim S4x8192x2 ![0, 1, 2] bcast_S4x8192x1_S4x8192x2_0_1_2
    (broadcastInDim S4x8192x1 ![0, 1] bcast_S4x8192_S4x8192x1_0_1 v) (ix3 b l j) = v (ix2 b l) := by
  pointwise

/-- The greatest logit, as the program bounds it from below by minus infinity. -/
theorem bound_apply (h : TopTwo (logits x W b l) a a') :
    maximumf (broadcastInDim S4x8192 ![] bcast_S_S4x8192 (constant S_ .f32 0xFF800000#32))
        (Host.reduce FloatOps.maximumf (Host.dotGeneral dot_S4x8192x768_S64x768_S4x8192x64_2_1_01_0_n_n none x W)
          (constant S_ .f32 0xFF800000#32) reducesTo_S4x8192x64_S4x8192_d2 h_S_) (ix2 b l) = logits x W b l a := by
  have hm : ∀ A B : FVec Ideal S4x8192 .f32, maximumf A B (ix2 b l) = max (A (ix2 b l)) (B (ix2 b l)) := fun _ _ => rfl
  have hc : broadcastInDim S4x8192 ![] bcast_S_S4x8192 (constant (F := Ideal) S_ .f32 0xFF800000#32) (ix2 b l) = ⊥ :=
    KernelIdeal.Router.ofBits_neg_inf
  rw [hm, hc, max_eq_right bot_le]
  refine (Cert.Pre_no_tie.max_apply _ b l).trans ?_
  rw [← h.max_eq]
  exact congrArg (fun f => Finset.univ.fold max ⊥ f) (funext fun e => Cert.Pre_no_tie.dot_apply x W b l e)

/-- The exponential of a logit less the greatest. -/
theorem exps_apply (h : TopTwo (logits x W b l) a a') (e : Fin 64) :
    exps x W (ix3 b l e) = Ideal.exp (logits x W b l e - logits x W b l a) := by
  have he : ∀ A B : FVec Ideal S4x8192x64 .f32, Host.exp (subf A B) (ix3 b l e) = Ideal.exp (A (ix3 b l e) - B (ix3 b l e)) := fun _ _ => rfl
  unfold exps
  rw [he, spread_apply, bound_apply h]
  exact congrArg (fun z => Ideal.exp (z - logits x W b l a)) (Cert.Pre_no_tie.dot_apply x W b l e)

/-- The probability of an expert. -/
theorem probs_apply (h : TopTwo (logits x W b l) a a') (e : Fin 64) : probs x W (ix3 b l e) = prob (logits x W b l) a e := by
  unfold probs prob
  pointwise
  simp only [exps_apply h]

/-- The two largest of a token's 64 values, when they are larger than all the rest. -/
theorem top_apply (P : FVec Ideal S4x8192x64 .f32) (hne : a' ≠ a) (h1 : ∀ e, e ≠ a → P (ix3 b l e) < P (ix3 b l a))
    (h2 : ∀ e, e ≠ a → e ≠ a' → P (ix3 b l e) < P (ix3 b l a')) :
    ((top P).1 (ix3 b l 0) = P (ix3 b l a) ∧ (top P).1 (ix3 b l 1) = P (ix3 b l a'))
      ∧ (top P).2 (ix3 b l 0) = BitVec.ofNat 32 a.val ∧ (top P).2 (ix3 b l 1) = BitVec.ofNat 32 a'.val := by
  obtain ⟨s0, s1⟩ := sortedFrom_two (fun e => P (ix3 b l e)) a a' hne h1 h2
  have al : ∀ (e k : Fin 64), (ix3 (n0 := 4) (n1 := 8192) (n2 := 64) b l e).along 2 k = ix3 b l k := by
    intro e k
    funext d
    match d with
    | ⟨0, _⟩ => rfl
    | ⟨1, _⟩ => rfl
    | ⟨2, _⟩ => rfl
  have gt : ∀ y z : EReal, (FloatOps.cmpfTotal (F := Ideal) (φ := .f32) CmpDirection.gt y z == 1#1) = decide (z < y) := by
    intro y z
    show (BitVec.ofBool (decide (z < y)) == 1#1) = _
    by_cases hyz : z < y <;> simp [hyz]
  unfold top Host.topK Host.sort2
  pointwise
  simp only [al, gt]
  exact ⟨⟨congrArg (fun k => P (ix3 b l k)) s0, congrArg (fun k => P (ix3 b l k)) s1⟩,
    congrArg (fun k : Fin 64 => BitVec.ofNat 32 k.val) s0, congrArg (fun k : Fin 64 => BitVec.ofNat 32 k.val) s1⟩

/-- A value over the sum of the two. -/
theorem shares_apply (v : FVec Ideal S4x8192x2 .f32) (j : Fin 2) :
    shares v (ix3 b l j) = Ideal.div (v (ix3 b l j)) (v (ix3 b l 0) + v (ix3 b l 1)) := by
  unfold shares
  pointwise
  rw [Fin.sum_univ_two]

/-- The reference's indices and weights of a token. -/
theorem reference_apply (h : TopTwo (logits x W b l) a a') :
    (shares (top (probs x W)).1 (ix3 b l 0) = weight1 (logits x W b l) a a'
      ∧ shares (top (probs x W)).1 (ix3 b l 1) = weight2 (logits x W b l) a a')
    ∧ (top (probs x W)).2 (ix3 b l 0) = BitVec.ofNat 32 a.val ∧ (top (probs x W)).2 (ix3 b l 1) = BitVec.ofNat 32 a'.val := by
  obtain ⟨⟨t0, t1⟩, ti⟩ := top_apply (b := b) (l := l) (a := a) (a' := a') (probs x W) h.ne
    (fun e he => by rw [probs_apply h, probs_apply h]; exact h.prob_first e he)
    (fun e he he' => by rw [probs_apply h, probs_apply h]; exact h.prob_second e he he')
  refine ⟨⟨?_, ?_⟩, ti⟩
  · rw [shares_apply, t0, t1, probs_apply h, probs_apply h]; exact h.weight1_eq
  · rw [shares_apply, t0, t1, probs_apply h, probs_apply h]; exact h.weight2_eq

/-- The reference's run, its results by these names. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15)
          = shares (top (probs (m ((c.tc : Thread nD τ).loc main_arg0)) (m ((c.tc : Thread nD τ).loc main_arg1)))).1
      ∧ r.2.mem ((c.tc : Thread nD τ).loc main_indices)
          = (top (probs (m ((c.tc : Thread nD τ).loc main_arg0)) (m ((c.tc : Thread nD τ).loc main_arg1)))).2
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run (F := Ideal) m ρ

end Cert.ReferenceIdeal.Router

end
-- ==== Proof.Value.Equation.lean ====
/- The equation: what the kernel's results hold is what the reference computes. -/
module

public import proofs.«01_k».proof.Proof.Value.Token
public import proofs.«01_k».proof.Proof.Value.Reference

@[expose] public section

noncomputable section

namespace Cert.KernelIdeal.Router

open Cert.KernelIdeal Cert.KernelIdeal.Gen Cert.Router Idealize.ShloMosaic Idealize.ShloMosaic.TcCoe Idealize.SL.Sem
open Cert.ReferenceIdeal.Router (probs top shares reference_apply)

variable (m : (ℓ : Loc nD τ sig) → Buf (Elt Ideal) ℓ) (c : Dev nD)

/-- Two arrays that agree at both choices of every token are equal. -/
theorem ext_tokens {α : Type} (f g : S4x8192x2.Idx → α)
    (h : ∀ (b : Fin 4) (l : Fin 8192), f (ix3 b l 0) = g (ix3 b l 0) ∧ f (ix3 b l 1) = g (ix3 b l 1)) : f = g := by
  have both : ∀ (b : Fin 4) (l : Fin 8192) (j : Fin 2), f (ix3 b l j) = g (ix3 b l j) := by
    intro b l j
    match j with
    | ⟨0, _⟩ => exact (h b l).1
    | ⟨1, _⟩ => exact (h b l).2
  funext i
  have e : i = ix3 (n0 := 4) (n1 := 8192) (n2 := 2) (i 0) (i 1) (i 2) := by
    funext a
    match a with
    | ⟨0, _⟩ => rfl
    | ⟨1, _⟩ => rfl
    | ⟨2, _⟩ => rfl
  rw [e]
  exact both _ _ _

/-- The weights and the indices, under the precondition. -/
theorem results_eq (h : Cert.Pre_no_tie.fn (F := Ideal) (m ((c : Thread nD τ).loc main_arg0)) (m ((c : Thread nD τ).loc main_arg1)) = fun _ => 1#1) :
    shapeCast S4x8192x2 (weightsAll m c) shapeCasts_S32768x2_S4x8192x2
        = shares (top (probs (m ((c : Thread nD τ).loc main_arg0)) (m ((c : Thread nD τ).loc main_arg1)))).1
      ∧ shapeCast S4x8192x2 (indicesAll m c) shapeCasts_S32768x2_S4x8192x2
        = (top (probs (m ((c : Thread nD τ).loc main_arg0)) (m ((c : Thread nD τ).loc main_arg1)))).2 := by
  constructor
  · refine ext_tokens _ _ fun b l => ?_
    obtain ⟨a, a', ht⟩ := Cert.Pre_no_tie.topTwo _ _ h b l
    have hk := (kernel_apply m c ht).1
    have hr := (reference_apply ht).1
    exact ⟨hk.1.trans hr.1.symm, hk.2.trans hr.2.symm⟩
  · refine ext_tokens _ _ fun b l => ?_
    obtain ⟨a, a', ht⟩ := Cert.Pre_no_tie.topTwo _ _ h b l
    have hk := (kernel_apply m c ht).2
    have hr := (reference_apply ht).2
    exact ⟨hk.1.trans hr.1.symm, hk.2.trans hr.2.symm⟩

end Cert.KernelIdeal.Router

end
-- ==== Proof.lean ====
module

public import proofs.«01_k».proof.Defs
public import proofs.«01_k».proof.Proof.Kernel.Launch
public import proofs.«01_k».proof.Proof.KernelIdeal.Launch
public import proofs.«01_k».proof.Proof.Gen.ReferenceIdeal.Run
public import proofs.«01_k».proof.Proof.Value.Equation
public import proofs.«01_k».proof.Proof.Gen.Pre_no_tie
public import Idealize.ShloMosaic.Adequacy
public import Idealize.ShloMosaic.Init

@[expose] public section

noncomputable section

namespace Cert.Proof

open Idealize.ShloMosaic Idealize.SL.Sem Cert.Kernel

/-- The reference runs, leaves its arguments as they were, and has no semaphore to leave raised. -/
theorem reference_frame : Cert.quiescent_ReferenceIdeal (hReferenceIdeal := Cert.ReferenceIdeal.Gen.facts) := fun m ρ _ =>
  (θ_run (Cert.ReferenceIdeal.defs (F := Ideal)) (onTc (τ := Cert.ReferenceIdeal.τ) (Cert.ReferenceIdeal.main (F := Ideal)))
    ⟨m, fun _ => 0, ρ⟩).mono
    (fun r h => ⟨fun c => ⟨(h c).2.2.1, (h c).2.2.2⟩, Idealize.ShloMosaic.sem_eq_zero_of_no_sems (by decide) r.2⟩)
    (Cert.ReferenceIdeal.Value.run (F := Ideal) m ρ)

/-- At the ideal instance the kernel's weights and indices are the reference's, wherever no token has a tie. -/
theorem value : Cert.algebraic_KernelIdeal_ReferenceIdeal (hKernelIdeal := Cert.KernelIdeal.Gen.facts)
    (hReferenceIdeal := Cert.ReferenceIdeal.Gen.facts) (hPre_no_tie := Cert.Pre_no_tie.Gen.facts) := by
  intro m ρ m' ρ' hpre hargs
  refine ⟨_, _, Cert.KernelIdeal.Router.run_value m ρ,
    (θ_run (Cert.ReferenceIdeal.defs (F := Ideal)) (onTc (τ := Cert.ReferenceIdeal.τ) (Cert.ReferenceIdeal.main (F := Ideal)))
      ⟨m', fun _ => 0, ρ'⟩).mono (fun r h c => ?_) (Cert.ReferenceIdeal.Router.run_value m' ρ')⟩
  obtain ⟨h3, h4, h0, h1⟩ := h c
  obtain ⟨e0, e1⟩ := hargs c
  obtain ⟨w, i⟩ := Cert.KernelIdeal.Router.results_eq m c (hpre c)
  rw [e0, e1] at h3 h4
  exact ⟨h3.trans w.symm, h4.trans i.symm, h0, h1⟩

/-- Every claim of the certificate, with the programs' side conditions proved. -/
theorem claim : Cert.Claim := ⟨Cert.Kernel.Gen.facts, Cert.KernelIdeal.Gen.facts, Cert.ReferenceIdeal.Gen.facts, Cert.Pre_no_tie.Gen.facts,
  fun m ρ _ => Cert.Kernel.Router.frame m ρ,
  fun m ρ _ => Cert.Kernel.Router.frame m ρ,
  fun m ρ _ => Cert.KernelIdeal.Router.frame m ρ,
  fun m ρ _ => reference_frame m ρ trivial,
  fun m ρ _ => reference_frame m ρ trivial,
  trivial, value⟩

end Cert.Proof

end
